-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 64]⟩ ⟨2, ![2048, 2048]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![64, 2048]⟩ ⟨2, ![2048, 2048]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x64 : Shape := ⟨2, ![2048, 64]⟩
abbrev S64x2048 : Shape := ⟨2, ![64, 2048]⟩
abbrev S2048x2048 : Shape := ⟨2, ![2048, 2048]⟩
abbrev S128x1024 : Shape := ⟨2, ![128, 1024]⟩
abbrev S15x128x1024 : Shape := ⟨3, ![15, 128, 1024]⟩
abbrev S64x1024 : Shape := ⟨2, ![64, 1024]⟩
abbrev S30 : Shape := ⟨1, ![30]⟩
abbrev S4 : Shape := ⟨1, ![4]⟩
abbrev S_ : Shape := ⟨0, ![]⟩
abbrev S128x64 : Shape := ⟨2, ![128, 64]⟩
abbrev S1 : Shape := ⟨1, ![1]⟩
abbrev S1x64x1024 : Shape := ⟨3, ![1, 64, 1024]⟩
abbrev S16x1024 : Shape := ⟨2, ![16, 1024]⟩
abbrev S1x16x1024 : Shape := ⟨3, ![1, 16, 1024]⟩

abbrev nBuf : Space → Nat
  | .hbm => 3
  | .vmem => 9
  | .smem => 0
  | _ => 0

abbrev bufTy : (tb : Table) → Fin (tcTables nBuf tb) → BufTy
  | .hbm, ⟨0, _⟩ => ⟨S2048x64, .f32⟩
  | .hbm, ⟨1, _⟩ => ⟨S64x2048, .f32⟩
  | .hbm, ⟨2, _⟩ => ⟨S2048x2048, .f32⟩
  | .local _ .vmem, ⟨0, _⟩ => ⟨S2048x64, .f32⟩
  | .local _ .vmem, ⟨1, _⟩ => ⟨S64x2048, .f32⟩
  | .local _ .vmem, ⟨2, _⟩ => ⟨S2048x2048, .f32⟩
  | .local _ .vmem, ⟨3, _⟩ => ⟨S128x1024, .f32⟩
  | .local _ .vmem, ⟨4, _⟩ => ⟨S128x1024, .f32⟩
  | .local _ .vmem, ⟨5, _⟩ => ⟨S15x128x1024, .f32⟩
  | .local _ .vmem, ⟨6, _⟩ => ⟨S15x128x1024, .f32⟩
  | .local _ .vmem, ⟨7, _⟩ => ⟨S64x1024, .f32⟩
  | .local _ .vmem, ⟨8, _⟩ => ⟨S64x1024, .f32⟩
  | _, _ => ⟨S2048x64, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 275 → Bool
  | ⟨i, _⟩ => dmaSemScopedAt i

abbrev sig : RefSig :=
  (ofTc nBuf bufTy 1 275 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_138 : BitVec 32 := 1#32
  let v257 : BitVec 32 := Scalar.muli v237 c1_i32_138
  let v258 : BitVec 32 := Scalar.addi c0_i32_139 v257
  v258.toNat
def k0_dev2 (d0 : Dev nD) : Nat :=
  let c0_i32_142 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_141 : BitVec 32 := 1#32
  let v259 : BitVec 32 := Scalar.muli v220 c1_i32_141
  let v260 : BitVec 32 := Scalar.addi c0_i32_142 v259
  v260.toNat
def k0_dev3 (d0 : Dev nD) : Nat :=
  let c0_i32_145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_127 : BitVec 32 := 8#32
  let v239 : BitVec 32 := Scalar.muli v19 c8_i32_127
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_128 : BitVec 32 := 2#32
  let v240 : BitVec 32 := Scalar.muli v46 c2_i32_128
  let v241 : BitVec 32 := Scalar.addi v239 v240
  let c2_i32_129 : BitVec 32 := 2#32
  let c0_i32_130 : BitVec 32 := 0#32
  let v242 : BitVec 1 := Scalar.cmpi .eq c2_i32_129 c0_i32_130
  let c1_i32_131 : BitVec 32 := 1#32
  let v243 : BitVec 32 := Scalar.select v242 c1_i32_131 c2_i32_129
  let v244 : BitVec 32 := Scalar.remsi v46 v243
  let c0_i32_133 : BitVec 32 := 0#32
  let v246 : BitVec 1 := Scalar.cmpi .slt v244 c0_i32_133
  let c0_i32_134 : BitVec 32 := 0#32
  let v247 : BitVec 1 := Scalar.cmpi .slt v243 c0_i32_134
  let v248 : BitVec 1 := Scalar.xori v246 v247
  let c0_i32_132 : BitVec 32 := 0#32
  let v245 : BitVec 1 := Scalar.cmpi .ne v244 c0_i32_132
  let v249 : BitVec 1 := Scalar.andi v248 v245
  let v250 : BitVec 32 := Scalar.addi v244 v243
  let v251 : BitVec 32 := Scalar.select v249 v250 v244
  let c0_i32_135 : BitVec 32 := 0#32
  let v252 : BitVec 1 := Scalar.cmpi .eq v251 c0_i32_135
  let c1_i32_126 : BitVec 32 := 1#32
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let v238 : BitVec 32 := Scalar.subi c1_i32_126 v69
  let c1_i32_136 : BitVec 32 := 1#32
  let v253 : BitVec 32 := Scalar.subi c1_i32_136 v238
  let v254 : BitVec 32 := Scalar.select v252 v238 v253
  let v255 : BitVec 32 := Scalar.addi v241 v254
  let c1_i32_144 : BitVec 32 := 1#32
  let v261 : BitVec 32 := Scalar.muli v255 c1_i32_144
  let v262 : BitVec 32 := Scalar.addi c0_i32_145 v261
  v262.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c128_i32 : BitVec 32 := 128#32
  let v263 : BitVec 32 := Scalar.muli v88 c128_i32
  let v264 : Index := Scalar.indexCast v263
  let c0 : Index := 0#32
  ![v264.toNat, 0]
def k0_dev4 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_160 : BitVec 32 := 1#32
  let v283 : BitVec 32 := Scalar.muli v220 c1_i32_160
  let v284 : BitVec 32 := Scalar.addi c0_i32_161 v283
  v284.toNat
def k0_dev5 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_169 : BitVec 32 := 1#32
  let v292 : BitVec 32 := Scalar.muli v237 c1_i32_169
  let v293 : BitVec 32 := Scalar.addi c0_i32_170 v292
  v293.toNat
def k0_dev6 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_178 : BitVec 32 := 1#32
  let v301 : BitVec 32 := Scalar.muli v220 c1_i32_178
  let v302 : BitVec 32 := Scalar.addi c0_i32_179 v301
  v302.toNat
def k0_dev7 (d0 : Dev nD) : Nat :=
  let c0_i32_187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_186 : BitVec 32 := 1#32
  let v310 : BitVec 32 := Scalar.muli v237 c1_i32_186
  let v311 : BitVec 32 := Scalar.addi c0_i32_187 v310
  v311.toNat
def k0_off2 (d0 : Dev nD) (c0_i32_192 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let v319 : BitVec 32 := Scalar.subi v88 c0_i32_192
  let c1_i32_193 : BitVec 32 := 1#32
  let v320 : BitVec 32 := Scalar.subi v319 c1_i32_193
  let c16_i32_194 : BitVec 32 := 16#32
  let v321 : BitVec 32 := Scalar.addi v320 c16_i32_194
  let c16_i32_195 : BitVec 32 := 16#32
  let c0_i32_196 : BitVec 32 := 0#32
  let v322 : BitVec 1 := Scalar.cmpi .eq c16_i32_195 c0_i32_196
  let c1_i32_197 : BitVec 32 := 1#32
  let v323 : BitVec 32 := Scalar.select v322 c1_i32_197 c16_i32_195
  let v324 : BitVec 32 := Scalar.remsi v321 v323
  let c0_i32_199 : BitVec 32 := 0#32
  let v326 : BitVec 1 := Scalar.cmpi .slt v324 c0_i32_199
  let c0_i32_200 : BitVec 32 := 0#32
  let v327 : BitVec 1 := Scalar.cmpi .slt v323 c0_i32_200
  let v328 : BitVec 1 := Scalar.xori v326 v327
  let c0_i32_198 : BitVec 32 := 0#32
  let v325 : BitVec 1 := Scalar.cmpi .ne v324 c0_i32_198
  let v329 : BitVec 1 := Scalar.andi v328 v325
  let v330 : BitVec 32 := Scalar.addi v324 v323
  let v331 : BitVec 32 := Scalar.select v329 v330 v324
  let c128_i32_201 : BitVec 32 := 128#32
  let v332 : BitVec 32 := Scalar.muli v331 c128_i32_201
  let v333 : Index := Scalar.indexCast v332
  let c0_202 : Index := 0#32
  ![v333.toNat, 0]
def k0_off3 (d0 : Dev nD) (c0_i32_206 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let v339 : BitVec 32 := Scalar.addi v88 c0_i32_206
  let c1_i32_207 : BitVec 32 := 1#32
  let v340 : BitVec 32 := Scalar.addi v339 c1_i32_207
  let c16_i32_208 : BitVec 32 := 16#32
  let c0_i32_209 : BitVec 32 := 0#32
  let v341 : BitVec 1 := Scalar.cmpi .eq c16_i32_208 c0_i32_209
  let c1_i32_210 : BitVec 32 := 1#32
  let v342 : BitVec 32 := Scalar.select v341 c1_i32_210 c16_i32_208
  let v343 : BitVec 32 := Scalar.remsi v340 v342
  let c0_i32_212 : BitVec 32 := 0#32
  let v345 : BitVec 1 := Scalar.cmpi .slt v343 c0_i32_212
  let c0_i32_213 : BitVec 32 := 0#32
  let v346 : BitVec 1 := Scalar.cmpi .slt v342 c0_i32_213
  let v347 : BitVec 1 := Scalar.xori v345 v346
  let c0_i32_211 : BitVec 32 := 0#32
  let v344 : BitVec 1 := Scalar.cmpi .ne v343 c0_i32_211
  let v348 : BitVec 1 := Scalar.andi v347 v344
  let v349 : BitVec 32 := Scalar.addi v343 v342
  let v350 : BitVec 32 := Scalar.select v348 v349 v343
  let c128_i32_214 : BitVec 32 := 128#32
  let v351 : BitVec 32 := Scalar.muli v350 c128_i32_214
  let v352 : Index := Scalar.indexCast v351
  let c0_215 : Index := 0#32
  ![v352.toNat, 0]
def k0_dev8 (d0 : Dev nD) : Nat :=
  let c0_i32_239 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_238 : BitVec 32 := 1#32
  let v372 : BitVec 32 := Scalar.muli v220 c1_i32_238
  let v373 : BitVec 32 := Scalar.addi c0_i32_239 v372
  v373.toNat
def k0_dev9 (d0 : Dev nD) : Nat :=
  let c0_i32_264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_263 : BitVec 32 := 1#32
  let v396 : BitVec 32 := Scalar.muli v237 c1_i32_263
  let v397 : BitVec 32 := Scalar.addi c0_i32_264 v396
  v397.toNat
def k0_dev10 (d0 : Dev nD) : Nat :=
  let c0_i32_288 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_287 : BitVec 32 := 1#32
  let v420 : BitVec 32 := Scalar.muli v220 c1_i32_287
  let v421 : BitVec 32 := Scalar.addi c0_i32_288 v420
  v421.toNat
def k0_dev11 (d0 : Dev nD) : Nat :=
  let c0_i32_313 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_312 : BitVec 32 := 1#32
  let v444 : BitVec 32 := Scalar.muli v237 c1_i32_312
  let v445 : BitVec 32 := Scalar.addi c0_i32_313 v444
  v445.toNat
def k0_dev12 (d0 : Dev nD) : Nat :=
  let c0_i32_364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_363 : BitVec 32 := 1#32
  let v508 : BitVec 32 := Scalar.muli v220 c1_i32_363
  let v509 : BitVec 32 := Scalar.addi c0_i32_364 v508
  v509.toNat
def k0_dev13 (d0 : Dev nD) : Nat :=
  let c0_i32_390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_389 : BitVec 32 := 1#32
  let v533 : BitVec 32 := Scalar.muli v237 c1_i32_389
  let v534 : BitVec 32 := Scalar.addi c0_i32_390 v533
  v534.toNat
def k0_dev14 (d0 : Dev nD) : Nat :=
  let c0_i32_415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_414 : BitVec 32 := 1#32
  let v558 : BitVec 32 := Scalar.muli v220 c1_i32_414
  let v559 : BitVec 32 := Scalar.addi c0_i32_415 v558
  v559.toNat
def k0_dev15 (d0 : Dev nD) : Nat :=
  let c0_i32_441 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_440 : BitVec 32 := 1#32
  let v583 : BitVec 32 := Scalar.muli v237 c1_i32_440
  let v584 : BitVec 32 := Scalar.addi c0_i32_441 v583
  v584.toNat
def k0_dev16 (d0 : Dev nD) : Nat :=
  let c0_i32_492 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_491 : BitVec 32 := 1#32
  let v647 : BitVec 32 := Scalar.muli v220 c1_i32_491
  let v648 : BitVec 32 := Scalar.addi c0_i32_492 v647
  v648.toNat
def k0_dev17 (d0 : Dev nD) : Nat :=
  let c0_i32_518 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_517 : BitVec 32 := 1#32
  let v672 : BitVec 32 := Scalar.muli v237 c1_i32_517
  let v673 : BitVec 32 := Scalar.addi c0_i32_518 v672
  v673.toNat
def k0_dev18 (d0 : Dev nD) : Nat :=
  let c0_i32_543 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_542 : BitVec 32 := 1#32
  let v697 : BitVec 32 := Scalar.muli v220 c1_i32_542
  let v698 : BitVec 32 := Scalar.addi c0_i32_543 v697
  v698.toNat
def k0_dev19 (d0 : Dev nD) : Nat :=
  let c0_i32_569 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_568 : BitVec 32 := 1#32
  let v722 : BitVec 32 := Scalar.muli v237 c1_i32_568
  let v723 : BitVec 32 := Scalar.addi c0_i32_569 v722
  v723.toNat
def k0_dev20 (d0 : Dev nD) : Nat :=
  let c0_i32_621 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_620 : BitVec 32 := 1#32
  let v786 : BitVec 32 := Scalar.muli v220 c1_i32_620
  let v787 : BitVec 32 := Scalar.addi c0_i32_621 v786
  v787.toNat
def k0_dev21 (d0 : Dev nD) : Nat :=
  let c0_i32_647 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_646 : BitVec 32 := 1#32
  let v811 : BitVec 32 := Scalar.muli v237 c1_i32_646
  let v812 : BitVec 32 := Scalar.addi c0_i32_647 v811
  v812.toNat
def k0_dev22 (d0 : Dev nD) : Nat :=
  let c0_i32_672 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_671 : BitVec 32 := 1#32
  let v836 : BitVec 32 := Scalar.muli v220 c1_i32_671
  let v837 : BitVec 32 := Scalar.addi c0_i32_672 v836
  v837.toNat
def k0_dev23 (d0 : Dev nD) : Nat :=
  let c0_i32_698 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_697 : BitVec 32 := 1#32
  let v861 : BitVec 32 := Scalar.muli v237 c1_i32_697
  let v862 : BitVec 32 := Scalar.addi c0_i32_698 v861
  v862.toNat
def k0_dev24 (d0 : Dev nD) : Nat :=
  let c0_i32_749 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_748 : BitVec 32 := 1#32
  let v925 : BitVec 32 := Scalar.muli v220 c1_i32_748
  let v926 : BitVec 32 := Scalar.addi c0_i32_749 v925
  v926.toNat
def k0_dev25 (d0 : Dev nD) : Nat :=
  let c0_i32_775 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_774 : BitVec 32 := 1#32
  let v950 : BitVec 32 := Scalar.muli v237 c1_i32_774
  let v951 : BitVec 32 := Scalar.addi c0_i32_775 v950
  v951.toNat
def k0_dev26 (d0 : Dev nD) : Nat :=
  let c0_i32_800 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_799 : BitVec 32 := 1#32
  let v975 : BitVec 32 := Scalar.muli v220 c1_i32_799
  let v976 : BitVec 32 := Scalar.addi c0_i32_800 v975
  v976.toNat
def k0_dev27 (d0 : Dev nD) : Nat :=
  let c0_i32_826 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_825 : BitVec 32 := 1#32
  let v1000 : BitVec 32 := Scalar.muli v237 c1_i32_825
  let v1001 : BitVec 32 := Scalar.addi c0_i32_826 v1000
  v1001.toNat
def k0_dev28 (d0 : Dev nD) : Nat :=
  let c0_i32_878 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_877 : BitVec 32 := 1#32
  let v1064 : BitVec 32 := Scalar.muli v220 c1_i32_877
  let v1065 : BitVec 32 := Scalar.addi c0_i32_878 v1064
  v1065.toNat
def k0_dev29 (d0 : Dev nD) : Nat :=
  let c0_i32_904 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_903 : BitVec 32 := 1#32
  let v1089 : BitVec 32 := Scalar.muli v237 c1_i32_903
  let v1090 : BitVec 32 := Scalar.addi c0_i32_904 v1089
  v1090.toNat
def k0_dev30 (d0 : Dev nD) : Nat :=
  let c0_i32_929 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_928 : BitVec 32 := 1#32
  let v1114 : BitVec 32 := Scalar.muli v220 c1_i32_928
  let v1115 : BitVec 32 := Scalar.addi c0_i32_929 v1114
  v1115.toNat
def k0_dev31 (d0 : Dev nD) : Nat :=
  let c0_i32_955 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_954 : BitVec 32 := 1#32
  let v1139 : BitVec 32 := Scalar.muli v237 c1_i32_954
  let v1140 : BitVec 32 := Scalar.addi c0_i32_955 v1139
  v1140.toNat
def k0_dev32 (d0 : Dev nD) : Nat :=
  let c0_i32_1006 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_1005 : BitVec 32 := 1#32
  let v1203 : BitVec 32 := Scalar.muli v220 c1_i32_1005
  let v1204 : BitVec 32 := Scalar.addi c0_i32_1006 v1203
  v1204.toNat
def k0_dev33 (d0 : Dev nD) : Nat :=
  let c0_i32_1032 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_1031 : BitVec 32 := 1#32
  let v1228 : BitVec 32 := Scalar.muli v237 c1_i32_1031
  let v1229 : BitVec 32 := Scalar.addi c0_i32_1032 v1228
  v1229.toNat
def k0_dev34 (d0 : Dev nD) : Nat :=
  let c0_i32_1058 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_1057 : BitVec 32 := 1#32
  let v1253 : BitVec 32 := Scalar.muli v220 c1_i32_1057
  let v1254 : BitVec 32 := Scalar.addi c0_i32_1058 v1253
  v1254.toNat
def k0_dev35 (d0 : Dev nD) : Nat :=
  let c0_i32_1084 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_1083 : BitVec 32 := 1#32
  let v1278 : BitVec 32 := Scalar.muli v237 c1_i32_1083
  let v1279 : BitVec 32 := Scalar.addi c0_i32_1084 v1278
  v1279.toNat
def k0_dev36 (d0 : Dev nD) : Nat :=
  let c0_i32_1136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_1135 : BitVec 32 := 1#32
  let v1342 : BitVec 32 := Scalar.muli v220 c1_i32_1135
  let v1343 : BitVec 32 := Scalar.addi c0_i32_1136 v1342
  v1343.toNat
def k0_dev37 (d0 : Dev nD) : Nat :=
  let c0_i32_1162 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_1161 : BitVec 32 := 1#32
  let v1367 : BitVec 32 := Scalar.muli v237 c1_i32_1161
  let v1368 : BitVec 32 := Scalar.addi c0_i32_1162 v1367
  v1368.toNat
def k0_dev38 (d0 : Dev nD) : Nat :=
  let c0_i32_1187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_1186 : BitVec 32 := 1#32
  let v1392 : BitVec 32 := Scalar.muli v220 c1_i32_1186
  let v1393 : BitVec 32 := Scalar.addi c0_i32_1187 v1392
  v1393.toNat
def k0_dev39 (d0 : Dev nD) : Nat :=
  let c0_i32_1213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_1212 : BitVec 32 := 1#32
  let v1417 : BitVec 32 := Scalar.muli v237 c1_i32_1212
  let v1418 : BitVec 32 := Scalar.addi c0_i32_1213 v1417
  v1418.toNat
def k0_dev40 (d0 : Dev nD) : Nat :=
  let c0_i32_1264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_1263 : BitVec 32 := 1#32
  let v1481 : BitVec 32 := Scalar.muli v220 c1_i32_1263
  let v1482 : BitVec 32 := Scalar.addi c0_i32_1264 v1481
  v1482.toNat
def k0_dev41 (d0 : Dev nD) : Nat :=
  let c0_i32_1290 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_1289 : BitVec 32 := 1#32
  let v1506 : BitVec 32 := Scalar.muli v237 c1_i32_1289
  let v1507 : BitVec 32 := Scalar.addi c0_i32_1290 v1506
  v1507.toNat
def k0_dev42 (d0 : Dev nD) : Nat :=
  let c0_i32_1315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_1314 : BitVec 32 := 1#32
  let v1531 : BitVec 32 := Scalar.muli v220 c1_i32_1314
  let v1532 : BitVec 32 := Scalar.addi c0_i32_1315 v1531
  v1532.toNat
def k0_dev43 (d0 : Dev nD) : Nat :=
  let c0_i32_1341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_1340 : BitVec 32 := 1#32
  let v1556 : BitVec 32 := Scalar.muli v237 c1_i32_1340
  let v1557 : BitVec 32 := Scalar.addi c0_i32_1341 v1556
  v1557.toNat
def k0_dev44 (d0 : Dev nD) : Nat :=
  let c0_i32_1392 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_1391 : BitVec 32 := 1#32
  let v1620 : BitVec 32 := Scalar.muli v220 c1_i32_1391
  let v1621 : BitVec 32 := Scalar.addi c0_i32_1392 v1620
  v1621.toNat
def k0_dev45 (d0 : Dev nD) : Nat :=
  let c0_i32_1418 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_1417 : BitVec 32 := 1#32
  let v1645 : BitVec 32 := Scalar.muli v237 c1_i32_1417
  let v1646 : BitVec 32 := Scalar.addi c0_i32_1418 v1645
  v1646.toNat
def k0_dev46 (d0 : Dev nD) : Nat :=
  let c0_i32_1443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_1442 : BitVec 32 := 1#32
  let v1670 : BitVec 32 := Scalar.muli v220 c1_i32_1442
  let v1671 : BitVec 32 := Scalar.addi c0_i32_1443 v1670
  v1671.toNat
def k0_dev47 (d0 : Dev nD) : Nat :=
  let c0_i32_1469 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_1468 : BitVec 32 := 1#32
  let v1695 : BitVec 32 := Scalar.muli v237 c1_i32_1468
  let v1696 : BitVec 32 := Scalar.addi c0_i32_1469 v1695
  v1696.toNat
def k0_dev48 (d0 : Dev nD) : Nat :=
  let c0_i32_1520 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_1519 : BitVec 32 := 1#32
  let v1759 : BitVec 32 := Scalar.muli v220 c1_i32_1519
  let v1760 : BitVec 32 := Scalar.addi c0_i32_1520 v1759
  v1760.toNat
def k0_dev49 (d0 : Dev nD) : Nat :=
  let c0_i32_1546 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_1545 : BitVec 32 := 1#32
  let v1784 : BitVec 32 := Scalar.muli v237 c1_i32_1545
  let v1785 : BitVec 32 := Scalar.addi c0_i32_1546 v1784
  v1785.toNat
def k0_dev50 (d0 : Dev nD) : Nat :=
  let c0_i32_1571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_1570 : BitVec 32 := 1#32
  let v1809 : BitVec 32 := Scalar.muli v220 c1_i32_1570
  let v1810 : BitVec 32 := Scalar.addi c0_i32_1571 v1809
  v1810.toNat
def k0_dev51 (d0 : Dev nD) : Nat :=
  let c0_i32_1597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_1596 : BitVec 32 := 1#32
  let v1834 : BitVec 32 := Scalar.muli v237 c1_i32_1596
  let v1835 : BitVec 32 := Scalar.addi c0_i32_1597 v1834
  v1835.toNat
def k0_dev52 (d0 : Dev nD) : Nat :=
  let c0_i32_1648 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_1647 : BitVec 32 := 1#32
  let v1898 : BitVec 32 := Scalar.muli v220 c1_i32_1647
  let v1899 : BitVec 32 := Scalar.addi c0_i32_1648 v1898
  v1899.toNat
def k0_dev53 (d0 : Dev nD) : Nat :=
  let c0_i32_1674 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_1673 : BitVec 32 := 1#32
  let v1923 : BitVec 32 := Scalar.muli v237 c1_i32_1673
  let v1924 : BitVec 32 := Scalar.addi c0_i32_1674 v1923
  v1924.toNat
def k0_dev54 (d0 : Dev nD) : Nat :=
  let c0_i32_1699 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_1698 : BitVec 32 := 1#32
  let v1948 : BitVec 32 := Scalar.muli v220 c1_i32_1698
  let v1949 : BitVec 32 := Scalar.addi c0_i32_1699 v1948
  v1949.toNat
def k0_dev55 (d0 : Dev nD) : Nat :=
  let c0_i32_1725 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_1724 : BitVec 32 := 1#32
  let v1973 : BitVec 32 := Scalar.muli v237 c1_i32_1724
  let v1974 : BitVec 32 := Scalar.addi c0_i32_1725 v1973
  v1974.toNat
def k0_dev56 (d0 : Dev nD) : Nat :=
  let c0_i32_1776 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_1775 : BitVec 32 := 1#32
  let v2037 : BitVec 32 := Scalar.muli v220 c1_i32_1775
  let v2038 : BitVec 32 := Scalar.addi c0_i32_1776 v2037
  v2038.toNat
def k0_dev57 (d0 : Dev nD) : Nat :=
  let c0_i32_1802 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_1801 : BitVec 32 := 1#32
  let v2062 : BitVec 32 := Scalar.muli v237 c1_i32_1801
  let v2063 : BitVec 32 := Scalar.addi c0_i32_1802 v2062
  v2063.toNat
def k0_dev58 (d0 : Dev nD) : Nat :=
  let c0_i32_1827 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_1826 : BitVec 32 := 1#32
  let v2087 : BitVec 32 := Scalar.muli v220 c1_i32_1826
  let v2088 : BitVec 32 := Scalar.addi c0_i32_1827 v2087
  v2088.toNat
def k0_dev59 (d0 : Dev nD) : Nat :=
  let c0_i32_1853 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_1852 : BitVec 32 := 1#32
  let v2112 : BitVec 32 := Scalar.muli v237 c1_i32_1852
  let v2113 : BitVec 32 := Scalar.addi c0_i32_1853 v2112
  v2113.toNat
def k0_dev60 (d0 : Dev nD) : Nat :=
  let c0_i32_1904 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_1903 : BitVec 32 := 1#32
  let v2176 : BitVec 32 := Scalar.muli v220 c1_i32_1903
  let v2177 : BitVec 32 := Scalar.addi c0_i32_1904 v2176
  v2177.toNat
def k0_dev61 (d0 : Dev nD) : Nat :=
  let c0_i32_1930 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_1929 : BitVec 32 := 1#32
  let v2201 : BitVec 32 := Scalar.muli v237 c1_i32_1929
  let v2202 : BitVec 32 := Scalar.addi c0_i32_1930 v2201
  v2202.toNat
def k0_dev62 (d0 : Dev nD) : Nat :=
  let c0_i32_1955 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_1954 : BitVec 32 := 1#32
  let v2226 : BitVec 32 := Scalar.muli v220 c1_i32_1954
  let v2227 : BitVec 32 := Scalar.addi c0_i32_1955 v2226
  v2227.toNat
def k0_dev63 (d0 : Dev nD) : Nat :=
  let c0_i32_1981 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_1980 : BitVec 32 := 1#32
  let v2251 : BitVec 32 := Scalar.muli v237 c1_i32_1980
  let v2252 : BitVec 32 := Scalar.addi c0_i32_1981 v2251
  v2252.toNat
def k0_off4 (d0 : Dev nD) (c0_i32_2094 : BitVec 32) : Fin 3 → Nat :=
  let c14_i32_2096 : BitVec 32 := 14#32
  let c1_i32_2092 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let v2384 : BitVec 32 := Scalar.subi c1_i32_2092 v69
  let c64_i32_2093 : BitVec 32 := 64#32
  let v2385 : BitVec 32 := Scalar.muli v2384 c64_i32_2093
  let v2386 : BitVec 32 := Scalar.addi v2385 c0_i32_2094
  let c0_i32_2103 : BitVec 32 := 0#32
  ![14, v2386.toNat, 0]
def k0_dev64 (d0 : Dev nD) : Nat :=
  let c0_i32_2100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_127 : BitVec 32 := 8#32
  let v239 : BitVec 32 := Scalar.muli v19 c8_i32_127
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_128 : BitVec 32 := 2#32
  let v240 : BitVec 32 := Scalar.muli v46 c2_i32_128
  let v241 : BitVec 32 := Scalar.addi v239 v240
  let c2_i32_129 : BitVec 32 := 2#32
  let c0_i32_130 : BitVec 32 := 0#32
  let v242 : BitVec 1 := Scalar.cmpi .eq c2_i32_129 c0_i32_130
  let c1_i32_131 : BitVec 32 := 1#32
  let v243 : BitVec 32 := Scalar.select v242 c1_i32_131 c2_i32_129
  let v244 : BitVec 32 := Scalar.remsi v46 v243
  let c0_i32_133 : BitVec 32 := 0#32
  let v246 : BitVec 1 := Scalar.cmpi .slt v244 c0_i32_133
  let c0_i32_134 : BitVec 32 := 0#32
  let v247 : BitVec 1 := Scalar.cmpi .slt v243 c0_i32_134
  let v248 : BitVec 1 := Scalar.xori v246 v247
  let c0_i32_132 : BitVec 32 := 0#32
  let v245 : BitVec 1 := Scalar.cmpi .ne v244 c0_i32_132
  let v249 : BitVec 1 := Scalar.andi v248 v245
  let v250 : BitVec 32 := Scalar.addi v244 v243
  let v251 : BitVec 32 := Scalar.select v249 v250 v244
  let c0_i32_135 : BitVec 32 := 0#32
  let v252 : BitVec 1 := Scalar.cmpi .eq v251 c0_i32_135
  let c1_i32_126 : BitVec 32 := 1#32
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let v238 : BitVec 32 := Scalar.subi c1_i32_126 v69
  let c1_i32_136 : BitVec 32 := 1#32
  let v253 : BitVec 32 := Scalar.subi c1_i32_136 v238
  let v254 : BitVec 32 := Scalar.select v252 v238 v253
  let v255 : BitVec 32 := Scalar.addi v241 v254
  let c1_i32_2099 : BitVec 32 := 1#32
  let v2388 : BitVec 32 := Scalar.muli v255 c1_i32_2099
  let v2389 : BitVec 32 := Scalar.addi c0_i32_2100 v2388
  v2389.toNat
def k0_dev65 (d0 : Dev nD) : Nat :=
  let c0_i32_2108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_127 : BitVec 32 := 8#32
  let v239 : BitVec 32 := Scalar.muli v19 c8_i32_127
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_128 : BitVec 32 := 2#32
  let v240 : BitVec 32 := Scalar.muli v46 c2_i32_128
  let v241 : BitVec 32 := Scalar.addi v239 v240
  let c2_i32_129 : BitVec 32 := 2#32
  let c0_i32_130 : BitVec 32 := 0#32
  let v242 : BitVec 1 := Scalar.cmpi .eq c2_i32_129 c0_i32_130
  let c1_i32_131 : BitVec 32 := 1#32
  let v243 : BitVec 32 := Scalar.select v242 c1_i32_131 c2_i32_129
  let v244 : BitVec 32 := Scalar.remsi v46 v243
  let c0_i32_133 : BitVec 32 := 0#32
  let v246 : BitVec 1 := Scalar.cmpi .slt v244 c0_i32_133
  let c0_i32_134 : BitVec 32 := 0#32
  let v247 : BitVec 1 := Scalar.cmpi .slt v243 c0_i32_134
  let v248 : BitVec 1 := Scalar.xori v246 v247
  let c0_i32_132 : BitVec 32 := 0#32
  let v245 : BitVec 1 := Scalar.cmpi .ne v244 c0_i32_132
  let v249 : BitVec 1 := Scalar.andi v248 v245
  let v250 : BitVec 32 := Scalar.addi v244 v243
  let v251 : BitVec 32 := Scalar.select v249 v250 v244
  let c0_i32_135 : BitVec 32 := 0#32
  let v252 : BitVec 1 := Scalar.cmpi .eq v251 c0_i32_135
  let c1_i32_126 : BitVec 32 := 1#32
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let v238 : BitVec 32 := Scalar.subi c1_i32_126 v69
  let c1_i32_136 : BitVec 32 := 1#32
  let v253 : BitVec 32 := Scalar.subi c1_i32_136 v238
  let v254 : BitVec 32 := Scalar.select v252 v238 v253
  let v255 : BitVec 32 := Scalar.addi v241 v254
  let c1_i32_2107 : BitVec 32 := 1#32
  let v2397 : BitVec 32 := Scalar.muli v255 c1_i32_2107
  let v2398 : BitVec 32 := Scalar.addi c0_i32_2108 v2397
  v2398.toNat
def k0_dev66 (d0 : Dev nD) : Nat :=
  let c0_i32_2118 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_127 : BitVec 32 := 8#32
  let v239 : BitVec 32 := Scalar.muli v19 c8_i32_127
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_128 : BitVec 32 := 2#32
  let v240 : BitVec 32 := Scalar.muli v46 c2_i32_128
  let v241 : BitVec 32 := Scalar.addi v239 v240
  let c2_i32_129 : BitVec 32 := 2#32
  let c0_i32_130 : BitVec 32 := 0#32
  let v242 : BitVec 1 := Scalar.cmpi .eq c2_i32_129 c0_i32_130
  let c1_i32_131 : BitVec 32 := 1#32
  let v243 : BitVec 32 := Scalar.select v242 c1_i32_131 c2_i32_129
  let v244 : BitVec 32 := Scalar.remsi v46 v243
  let c0_i32_133 : BitVec 32 := 0#32
  let v246 : BitVec 1 := Scalar.cmpi .slt v244 c0_i32_133
  let c0_i32_134 : BitVec 32 := 0#32
  let v247 : BitVec 1 := Scalar.cmpi .slt v243 c0_i32_134
  let v248 : BitVec 1 := Scalar.xori v246 v247
  let c0_i32_132 : BitVec 32 := 0#32
  let v245 : BitVec 1 := Scalar.cmpi .ne v244 c0_i32_132
  let v249 : BitVec 1 := Scalar.andi v248 v245
  let v250 : BitVec 32 := Scalar.addi v244 v243
  let v251 : BitVec 32 := Scalar.select v249 v250 v244
  let c0_i32_135 : BitVec 32 := 0#32
  let v252 : BitVec 1 := Scalar.cmpi .eq v251 c0_i32_135
  let c1_i32_126 : BitVec 32 := 1#32
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let v238 : BitVec 32 := Scalar.subi c1_i32_126 v69
  let c1_i32_136 : BitVec 32 := 1#32
  let v253 : BitVec 32 := Scalar.subi c1_i32_136 v238
  let v254 : BitVec 32 := Scalar.select v252 v238 v253
  let v255 : BitVec 32 := Scalar.addi v241 v254
  let c1_i32_2117 : BitVec 32 := 1#32
  let v2408 : BitVec 32 := Scalar.muli v255 c1_i32_2117
  let v2409 : BitVec 32 := Scalar.addi c0_i32_2118 v2408
  v2409.toNat
def k0_dev67 (d0 : Dev nD) : Nat :=
  let c0_i32_2126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_127 : BitVec 32 := 8#32
  let v239 : BitVec 32 := Scalar.muli v19 c8_i32_127
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_128 : BitVec 32 := 2#32
  let v240 : BitVec 32 := Scalar.muli v46 c2_i32_128
  let v241 : BitVec 32 := Scalar.addi v239 v240
  let c2_i32_129 : BitVec 32 := 2#32
  let c0_i32_130 : BitVec 32 := 0#32
  let v242 : BitVec 1 := Scalar.cmpi .eq c2_i32_129 c0_i32_130
  let c1_i32_131 : BitVec 32 := 1#32
  let v243 : BitVec 32 := Scalar.select v242 c1_i32_131 c2_i32_129
  let v244 : BitVec 32 := Scalar.remsi v46 v243
  let c0_i32_133 : BitVec 32 := 0#32
  let v246 : BitVec 1 := Scalar.cmpi .slt v244 c0_i32_133
  let c0_i32_134 : BitVec 32 := 0#32
  let v247 : BitVec 1 := Scalar.cmpi .slt v243 c0_i32_134
  let v248 : BitVec 1 := Scalar.xori v246 v247
  let c0_i32_132 : BitVec 32 := 0#32
  let v245 : BitVec 1 := Scalar.cmpi .ne v244 c0_i32_132
  let v249 : BitVec 1 := Scalar.andi v248 v245
  let v250 : BitVec 32 := Scalar.addi v244 v243
  let v251 : BitVec 32 := Scalar.select v249 v250 v244
  let c0_i32_135 : BitVec 32 := 0#32
  let v252 : BitVec 1 := Scalar.cmpi .eq v251 c0_i32_135
  let c1_i32_126 : BitVec 32 := 1#32
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let v238 : BitVec 32 := Scalar.subi c1_i32_126 v69
  let c1_i32_136 : BitVec 32 := 1#32
  let v253 : BitVec 32 := Scalar.subi c1_i32_136 v238
  let v254 : BitVec 32 := Scalar.select v252 v238 v253
  let v255 : BitVec 32 := Scalar.addi v241 v254
  let c1_i32_2125 : BitVec 32 := 1#32
  let v2417 : BitVec 32 := Scalar.muli v255 c1_i32_2125
  let v2418 : BitVec 32 := Scalar.addi c0_i32_2126 v2417
  v2418.toNat
def k0_dev68 (d0 : Dev nD) : Nat :=
  let c0_i32_2136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_127 : BitVec 32 := 8#32
  let v239 : BitVec 32 := Scalar.muli v19 c8_i32_127
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_128 : BitVec 32 := 2#32
  let v240 : BitVec 32 := Scalar.muli v46 c2_i32_128
  let v241 : BitVec 32 := Scalar.addi v239 v240
  let c2_i32_129 : BitVec 32 := 2#32
  let c0_i32_130 : BitVec 32 := 0#32
  let v242 : BitVec 1 := Scalar.cmpi .eq c2_i32_129 c0_i32_130
  let c1_i32_131 : BitVec 32 := 1#32
  let v243 : BitVec 32 := Scalar.select v242 c1_i32_131 c2_i32_129
  let v244 : BitVec 32 := Scalar.remsi v46 v243
  let c0_i32_133 : BitVec 32 := 0#32
  let v246 : BitVec 1 := Scalar.cmpi .slt v244 c0_i32_133
  let c0_i32_134 : BitVec 32 := 0#32
  let v247 : BitVec 1 := Scalar.cmpi .slt v243 c0_i32_134
  let v248 : BitVec 1 := Scalar.xori v246 v247
  let c0_i32_132 : BitVec 32 := 0#32
  let v245 : BitVec 1 := Scalar.cmpi .ne v244 c0_i32_132
  let v249 : BitVec 1 := Scalar.andi v248 v245
  let v250 : BitVec 32 := Scalar.addi v244 v243
  let v251 : BitVec 32 := Scalar.select v249 v250 v244
  let c0_i32_135 : BitVec 32 := 0#32
  let v252 : BitVec 1 := Scalar.cmpi .eq v251 c0_i32_135
  let c1_i32_126 : BitVec 32 := 1#32
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let v238 : BitVec 32 := Scalar.subi c1_i32_126 v69
  let c1_i32_136 : BitVec 32 := 1#32
  let v253 : BitVec 32 := Scalar.subi c1_i32_136 v238
  let v254 : BitVec 32 := Scalar.select v252 v238 v253
  let v255 : BitVec 32 := Scalar.addi v241 v254
  let c1_i32_2135 : BitVec 32 := 1#32
  let v2428 : BitVec 32 := Scalar.muli v255 c1_i32_2135
  let v2429 : BitVec 32 := Scalar.addi c0_i32_2136 v2428
  v2429.toNat
def k0_dev69 (d0 : Dev nD) : Nat :=
  let c0_i32_2144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_127 : BitVec 32 := 8#32
  let v239 : BitVec 32 := Scalar.muli v19 c8_i32_127
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_128 : BitVec 32 := 2#32
  let v240 : BitVec 32 := Scalar.muli v46 c2_i32_128
  let v241 : BitVec 32 := Scalar.addi v239 v240
  let c2_i32_129 : BitVec 32 := 2#32
  let c0_i32_130 : BitVec 32 := 0#32
  let v242 : BitVec 1 := Scalar.cmpi .eq c2_i32_129 c0_i32_130
  let c1_i32_131 : BitVec 32 := 1#32
  let v243 : BitVec 32 := Scalar.select v242 c1_i32_131 c2_i32_129
  let v244 : BitVec 32 := Scalar.remsi v46 v243
  let c0_i32_133 : BitVec 32 := 0#32
  let v246 : BitVec 1 := Scalar.cmpi .slt v244 c0_i32_133
  let c0_i32_134 : BitVec 32 := 0#32
  let v247 : BitVec 1 := Scalar.cmpi .slt v243 c0_i32_134
  let v248 : BitVec 1 := Scalar.xori v246 v247
  let c0_i32_132 : BitVec 32 := 0#32
  let v245 : BitVec 1 := Scalar.cmpi .ne v244 c0_i32_132
  let v249 : BitVec 1 := Scalar.andi v248 v245
  let v250 : BitVec 32 := Scalar.addi v244 v243
  let v251 : BitVec 32 := Scalar.select v249 v250 v244
  let c0_i32_135 : BitVec 32 := 0#32
  let v252 : BitVec 1 := Scalar.cmpi .eq v251 c0_i32_135
  let c1_i32_126 : BitVec 32 := 1#32
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let v238 : BitVec 32 := Scalar.subi c1_i32_126 v69
  let c1_i32_136 : BitVec 32 := 1#32
  let v253 : BitVec 32 := Scalar.subi c1_i32_136 v238
  let v254 : BitVec 32 := Scalar.select v252 v238 v253
  let v255 : BitVec 32 := Scalar.addi v241 v254
  let c1_i32_2143 : BitVec 32 := 1#32
  let v2437 : BitVec 32 := Scalar.muli v255 c1_i32_2143
  let v2438 : BitVec 32 := Scalar.addi c0_i32_2144 v2437
  v2438.toNat
def k0_dev70 (d0 : Dev nD) : Nat :=
  let c0_i32_2153 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_127 : BitVec 32 := 8#32
  let v239 : BitVec 32 := Scalar.muli v19 c8_i32_127
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_128 : BitVec 32 := 2#32
  let v240 : BitVec 32 := Scalar.muli v46 c2_i32_128
  let v241 : BitVec 32 := Scalar.addi v239 v240
  let c2_i32_129 : BitVec 32 := 2#32
  let c0_i32_130 : BitVec 32 := 0#32
  let v242 : BitVec 1 := Scalar.cmpi .eq c2_i32_129 c0_i32_130
  let c1_i32_131 : BitVec 32 := 1#32
  let v243 : BitVec 32 := Scalar.select v242 c1_i32_131 c2_i32_129
  let v244 : BitVec 32 := Scalar.remsi v46 v243
  let c0_i32_133 : BitVec 32 := 0#32
  let v246 : BitVec 1 := Scalar.cmpi .slt v244 c0_i32_133
  let c0_i32_134 : BitVec 32 := 0#32
  let v247 : BitVec 1 := Scalar.cmpi .slt v243 c0_i32_134
  let v248 : BitVec 1 := Scalar.xori v246 v247
  let c0_i32_132 : BitVec 32 := 0#32
  let v245 : BitVec 1 := Scalar.cmpi .ne v244 c0_i32_132
  let v249 : BitVec 1 := Scalar.andi v248 v245
  let v250 : BitVec 32 := Scalar.addi v244 v243
  let v251 : BitVec 32 := Scalar.select v249 v250 v244
  let c0_i32_135 : BitVec 32 := 0#32
  let v252 : BitVec 1 := Scalar.cmpi .eq v251 c0_i32_135
  let c1_i32_126 : BitVec 32 := 1#32
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let v238 : BitVec 32 := Scalar.subi c1_i32_126 v69
  let c1_i32_136 : BitVec 32 := 1#32
  let v253 : BitVec 32 := Scalar.subi c1_i32_136 v238
  let v254 : BitVec 32 := Scalar.select v252 v238 v253
  let v255 : BitVec 32 := Scalar.addi v241 v254
  let c1_i32_2152 : BitVec 32 := 1#32
  let v2448 : BitVec 32 := Scalar.muli v255 c1_i32_2152
  let v2449 : BitVec 32 := Scalar.addi c0_i32_2153 v2448
  v2449.toNat
def k0_dev71 (d0 : Dev nD) : Nat :=
  let c0_i32_2161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_127 : BitVec 32 := 8#32
  let v239 : BitVec 32 := Scalar.muli v19 c8_i32_127
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_128 : BitVec 32 := 2#32
  let v240 : BitVec 32 := Scalar.muli v46 c2_i32_128
  let v241 : BitVec 32 := Scalar.addi v239 v240
  let c2_i32_129 : BitVec 32 := 2#32
  let c0_i32_130 : BitVec 32 := 0#32
  let v242 : BitVec 1 := Scalar.cmpi .eq c2_i32_129 c0_i32_130
  let c1_i32_131 : BitVec 32 := 1#32
  let v243 : BitVec 32 := Scalar.select v242 c1_i32_131 c2_i32_129
  let v244 : BitVec 32 := Scalar.remsi v46 v243
  let c0_i32_133 : BitVec 32 := 0#32
  let v246 : BitVec 1 := Scalar.cmpi .slt v244 c0_i32_133
  let c0_i32_134 : BitVec 32 := 0#32
  let v247 : BitVec 1 := Scalar.cmpi .slt v243 c0_i32_134
  let v248 : BitVec 1 := Scalar.xori v246 v247
  let c0_i32_132 : BitVec 32 := 0#32
  let v245 : BitVec 1 := Scalar.cmpi .ne v244 c0_i32_132
  let v249 : BitVec 1 := Scalar.andi v248 v245
  let v250 : BitVec 32 := Scalar.addi v244 v243
  let v251 : BitVec 32 := Scalar.select v249 v250 v244
  let c0_i32_135 : BitVec 32 := 0#32
  let v252 : BitVec 1 := Scalar.cmpi .eq v251 c0_i32_135
  let c1_i32_126 : BitVec 32 := 1#32
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let v238 : BitVec 32 := Scalar.subi c1_i32_126 v69
  let c1_i32_136 : BitVec 32 := 1#32
  let v253 : BitVec 32 := Scalar.subi c1_i32_136 v238
  let v254 : BitVec 32 := Scalar.select v252 v238 v253
  let v255 : BitVec 32 := Scalar.addi v241 v254
  let c1_i32_2160 : BitVec 32 := 1#32
  let v2457 : BitVec 32 := Scalar.muli v255 c1_i32_2160
  let v2458 : BitVec 32 := Scalar.addi c0_i32_2161 v2457
  v2458.toNat
def k0_off5 (d0 : Dev nD) (c0_i32_2175 : BitVec 32) : Fin 3 → Nat :=
  let c14_2176 : Index := 14#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c64_i32_2091 : BitVec 32 := 64#32
  let v2383 : BitVec 32 := Scalar.muli v69 c64_i32_2091
  let v2477 : BitVec 32 := Scalar.addi v2383 c0_i32_2175
  let v2478 : Index := Scalar.indexCast v2477
  let c0_2177 : Index := 0#32
  ![14, v2478.toNat, 0]
def k0_off6 (d0 : Dev nD) (c0_i32_2180 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_2076 : BitVec 32 := 1#32
  let v2360 : BitVec 32 := Scalar.addi v88 c1_i32_2076
  let c16_i32_2077 : BitVec 32 := 16#32
  let c0_i32_2078 : BitVec 32 := 0#32
  let v2361 : BitVec 1 := Scalar.cmpi .eq c16_i32_2077 c0_i32_2078
  let c1_i32_2079 : BitVec 32 := 1#32
  let v2362 : BitVec 32 := Scalar.select v2361 c1_i32_2079 c16_i32_2077
  let v2363 : BitVec 32 := Scalar.remsi v2360 v2362
  let c0_i32_2081 : BitVec 32 := 0#32
  let v2365 : BitVec 1 := Scalar.cmpi .slt v2363 c0_i32_2081
  let c0_i32_2082 : BitVec 32 := 0#32
  let v2366 : BitVec 1 := Scalar.cmpi .slt v2362 c0_i32_2082
  let v2367 : BitVec 1 := Scalar.xori v2365 v2366
  let c0_i32_2080 : BitVec 32 := 0#32
  let v2364 : BitVec 1 := Scalar.cmpi .ne v2363 c0_i32_2080
  let v2368 : BitVec 1 := Scalar.andi v2367 v2364
  let v2369 : BitVec 32 := Scalar.addi v2363 v2362
  let v2370 : BitVec 32 := Scalar.select v2368 v2369 v2363
  let c128_i32_2165 : BitVec 32 := 128#32
  let v2466 : BitVec 32 := Scalar.muli v2370 c128_i32_2165
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c64_i32_2091 : BitVec 32 := 64#32
  let v2383 : BitVec 32 := Scalar.muli v69 c64_i32_2091
  let v2467 : BitVec 32 := Scalar.addi v2466 v2383
  let v2485 : BitVec 32 := Scalar.addi v2467 c0_i32_2180
  let v2486 : Index := Scalar.indexCast v2485
  let c0_2181 : Index := 0#32
  ![v2486.toNat, 0]
def k0_off7 (d0 : Dev nD) (c0_i32_2183 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_2076 : BitVec 32 := 1#32
  let v2360 : BitVec 32 := Scalar.addi v88 c1_i32_2076
  let c16_i32_2077 : BitVec 32 := 16#32
  let c0_i32_2078 : BitVec 32 := 0#32
  let v2361 : BitVec 1 := Scalar.cmpi .eq c16_i32_2077 c0_i32_2078
  let c1_i32_2079 : BitVec 32 := 1#32
  let v2362 : BitVec 32 := Scalar.select v2361 c1_i32_2079 c16_i32_2077
  let v2363 : BitVec 32 := Scalar.remsi v2360 v2362
  let c0_i32_2081 : BitVec 32 := 0#32
  let v2365 : BitVec 1 := Scalar.cmpi .slt v2363 c0_i32_2081
  let c0_i32_2082 : BitVec 32 := 0#32
  let v2366 : BitVec 1 := Scalar.cmpi .slt v2362 c0_i32_2082
  let v2367 : BitVec 1 := Scalar.xori v2365 v2366
  let c0_i32_2080 : BitVec 32 := 0#32
  let v2364 : BitVec 1 := Scalar.cmpi .ne v2363 c0_i32_2080
  let v2368 : BitVec 1 := Scalar.andi v2367 v2364
  let v2369 : BitVec 32 := Scalar.addi v2363 v2362
  let v2370 : BitVec 32 := Scalar.select v2368 v2369 v2363
  let c128_i32_2165 : BitVec 32 := 128#32
  let v2466 : BitVec 32 := Scalar.muli v2370 c128_i32_2165
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c64_i32_2091 : BitVec 32 := 64#32
  let v2383 : BitVec 32 := Scalar.muli v69 c64_i32_2091
  let v2467 : BitVec 32 := Scalar.addi v2466 v2383
  let v2489 : BitVec 32 := Scalar.addi v2467 c0_i32_2183
  let c0_i32_2188 : BitVec 32 := 0#32
  ![v2489.toNat, 0]
def k0_dev72 (d0 : Dev nD) : Nat :=
  let c0_i32_2187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_127 : BitVec 32 := 8#32
  let v239 : BitVec 32 := Scalar.muli v19 c8_i32_127
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_128 : BitVec 32 := 2#32
  let v240 : BitVec 32 := Scalar.muli v46 c2_i32_128
  let v241 : BitVec 32 := Scalar.addi v239 v240
  let c2_i32_129 : BitVec 32 := 2#32
  let c0_i32_130 : BitVec 32 := 0#32
  let v242 : BitVec 1 := Scalar.cmpi .eq c2_i32_129 c0_i32_130
  let c1_i32_131 : BitVec 32 := 1#32
  let v243 : BitVec 32 := Scalar.select v242 c1_i32_131 c2_i32_129
  let v244 : BitVec 32 := Scalar.remsi v46 v243
  let c0_i32_133 : BitVec 32 := 0#32
  let v246 : BitVec 1 := Scalar.cmpi .slt v244 c0_i32_133
  let c0_i32_134 : BitVec 32 := 0#32
  let v247 : BitVec 1 := Scalar.cmpi .slt v243 c0_i32_134
  let v248 : BitVec 1 := Scalar.xori v246 v247
  let c0_i32_132 : BitVec 32 := 0#32
  let v245 : BitVec 1 := Scalar.cmpi .ne v244 c0_i32_132
  let v249 : BitVec 1 := Scalar.andi v248 v245
  let v250 : BitVec 32 := Scalar.addi v244 v243
  let v251 : BitVec 32 := Scalar.select v249 v250 v244
  let c0_i32_135 : BitVec 32 := 0#32
  let v252 : BitVec 1 := Scalar.cmpi .eq v251 c0_i32_135
  let c1_i32_126 : BitVec 32 := 1#32
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let v238 : BitVec 32 := Scalar.subi c1_i32_126 v69
  let c1_i32_136 : BitVec 32 := 1#32
  let v253 : BitVec 32 := Scalar.subi c1_i32_136 v238
  let v254 : BitVec 32 := Scalar.select v252 v238 v253
  let v255 : BitVec 32 := Scalar.addi v241 v254
  let c1_i32_2186 : BitVec 32 := 1#32
  let v2490 : BitVec 32 := Scalar.muli v255 c1_i32_2186
  let v2491 : BitVec 32 := Scalar.addi c0_i32_2187 v2490
  v2491.toNat
def k0_off8 (d0 : Dev nD) (c0_i32_2203 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_2083 : BitVec 32 := 16#32
  let v2371 : BitVec 32 := Scalar.addi v88 c16_i32_2083
  let c1_i32_2084 : BitVec 32 := 1#32
  let v2372 : BitVec 32 := Scalar.subi v2371 c1_i32_2084
  let c16_i32_2085 : BitVec 32 := 16#32
  let c0_i32_2086 : BitVec 32 := 0#32
  let v2373 : BitVec 1 := Scalar.cmpi .eq c16_i32_2085 c0_i32_2086
  let c1_i32_2087 : BitVec 32 := 1#32
  let v2374 : BitVec 32 := Scalar.select v2373 c1_i32_2087 c16_i32_2085
  let v2375 : BitVec 32 := Scalar.remsi v2372 v2374
  let c0_i32_2089 : BitVec 32 := 0#32
  let v2377 : BitVec 1 := Scalar.cmpi .slt v2375 c0_i32_2089
  let c0_i32_2090 : BitVec 32 := 0#32
  let v2378 : BitVec 1 := Scalar.cmpi .slt v2374 c0_i32_2090
  let v2379 : BitVec 1 := Scalar.xori v2377 v2378
  let c0_i32_2088 : BitVec 32 := 0#32
  let v2376 : BitVec 1 := Scalar.cmpi .ne v2375 c0_i32_2088
  let v2380 : BitVec 1 := Scalar.andi v2379 v2376
  let v2381 : BitVec 32 := Scalar.addi v2375 v2374
  let v2382 : BitVec 32 := Scalar.select v2380 v2381 v2375
  let c128_i32_2166 : BitVec 32 := 128#32
  let v2468 : BitVec 32 := Scalar.muli v2382 c128_i32_2166
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c64_i32_2091 : BitVec 32 := 64#32
  let v2383 : BitVec 32 := Scalar.muli v69 c64_i32_2091
  let v2469 : BitVec 32 := Scalar.addi v2468 v2383
  let v2513 : BitVec 32 := Scalar.addi v2469 c0_i32_2203
  let v2514 : Index := Scalar.indexCast v2513
  let c1024_2204 : Index := 1024#32
  ![v2514.toNat, 1024]
def k0_off9 (d0 : Dev nD) (c0_i32_2206 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_2083 : BitVec 32 := 16#32
  let v2371 : BitVec 32 := Scalar.addi v88 c16_i32_2083
  let c1_i32_2084 : BitVec 32 := 1#32
  let v2372 : BitVec 32 := Scalar.subi v2371 c1_i32_2084
  let c16_i32_2085 : BitVec 32 := 16#32
  let c0_i32_2086 : BitVec 32 := 0#32
  let v2373 : BitVec 1 := Scalar.cmpi .eq c16_i32_2085 c0_i32_2086
  let c1_i32_2087 : BitVec 32 := 1#32
  let v2374 : BitVec 32 := Scalar.select v2373 c1_i32_2087 c16_i32_2085
  let v2375 : BitVec 32 := Scalar.remsi v2372 v2374
  let c0_i32_2089 : BitVec 32 := 0#32
  let v2377 : BitVec 1 := Scalar.cmpi .slt v2375 c0_i32_2089
  let c0_i32_2090 : BitVec 32 := 0#32
  let v2378 : BitVec 1 := Scalar.cmpi .slt v2374 c0_i32_2090
  let v2379 : BitVec 1 := Scalar.xori v2377 v2378
  let c0_i32_2088 : BitVec 32 := 0#32
  let v2376 : BitVec 1 := Scalar.cmpi .ne v2375 c0_i32_2088
  let v2380 : BitVec 1 := Scalar.andi v2379 v2376
  let v2381 : BitVec 32 := Scalar.addi v2375 v2374
  let v2382 : BitVec 32 := Scalar.select v2380 v2381 v2375
  let c128_i32_2166 : BitVec 32 := 128#32
  let v2468 : BitVec 32 := Scalar.muli v2382 c128_i32_2166
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c64_i32_2091 : BitVec 32 := 64#32
  let v2383 : BitVec 32 := Scalar.muli v69 c64_i32_2091
  let v2469 : BitVec 32 := Scalar.addi v2468 v2383
  let v2517 : BitVec 32 := Scalar.addi v2469 c0_i32_2206
  let c1024_i32 : BitVec 32 := 1024#32
  ![v2517.toNat, 1024]
def k0_dev73 (d0 : Dev nD) : Nat :=
  let c0_i32_2210 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_127 : BitVec 32 := 8#32
  let v239 : BitVec 32 := Scalar.muli v19 c8_i32_127
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_128 : BitVec 32 := 2#32
  let v240 : BitVec 32 := Scalar.muli v46 c2_i32_128
  let v241 : BitVec 32 := Scalar.addi v239 v240
  let c2_i32_129 : BitVec 32 := 2#32
  let c0_i32_130 : BitVec 32 := 0#32
  let v242 : BitVec 1 := Scalar.cmpi .eq c2_i32_129 c0_i32_130
  let c1_i32_131 : BitVec 32 := 1#32
  let v243 : BitVec 32 := Scalar.select v242 c1_i32_131 c2_i32_129
  let v244 : BitVec 32 := Scalar.remsi v46 v243
  let c0_i32_133 : BitVec 32 := 0#32
  let v246 : BitVec 1 := Scalar.cmpi .slt v244 c0_i32_133
  let c0_i32_134 : BitVec 32 := 0#32
  let v247 : BitVec 1 := Scalar.cmpi .slt v243 c0_i32_134
  let v248 : BitVec 1 := Scalar.xori v246 v247
  let c0_i32_132 : BitVec 32 := 0#32
  let v245 : BitVec 1 := Scalar.cmpi .ne v244 c0_i32_132
  let v249 : BitVec 1 := Scalar.andi v248 v245
  let v250 : BitVec 32 := Scalar.addi v244 v243
  let v251 : BitVec 32 := Scalar.select v249 v250 v244
  let c0_i32_135 : BitVec 32 := 0#32
  let v252 : BitVec 1 := Scalar.cmpi .eq v251 c0_i32_135
  let c1_i32_126 : BitVec 32 := 1#32
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let v238 : BitVec 32 := Scalar.subi c1_i32_126 v69
  let c1_i32_136 : BitVec 32 := 1#32
  let v253 : BitVec 32 := Scalar.subi c1_i32_136 v238
  let v254 : BitVec 32 := Scalar.select v252 v238 v253
  let v255 : BitVec 32 := Scalar.addi v241 v254
  let c1_i32_2209 : BitVec 32 := 1#32
  let v2518 : BitVec 32 := Scalar.muli v255 c1_i32_2209
  let v2519 : BitVec 32 := Scalar.addi c0_i32_2210 v2518
  v2519.toNat
def k0_dev74 (d0 : Dev nD) : Nat :=
  let c0_i32_2231 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_127 : BitVec 32 := 8#32
  let v239 : BitVec 32 := Scalar.muli v19 c8_i32_127
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_128 : BitVec 32 := 2#32
  let v240 : BitVec 32 := Scalar.muli v46 c2_i32_128
  let v241 : BitVec 32 := Scalar.addi v239 v240
  let c2_i32_129 : BitVec 32 := 2#32
  let c0_i32_130 : BitVec 32 := 0#32
  let v242 : BitVec 1 := Scalar.cmpi .eq c2_i32_129 c0_i32_130
  let c1_i32_131 : BitVec 32 := 1#32
  let v243 : BitVec 32 := Scalar.select v242 c1_i32_131 c2_i32_129
  let v244 : BitVec 32 := Scalar.remsi v46 v243
  let c0_i32_133 : BitVec 32 := 0#32
  let v246 : BitVec 1 := Scalar.cmpi .slt v244 c0_i32_133
  let c0_i32_134 : BitVec 32 := 0#32
  let v247 : BitVec 1 := Scalar.cmpi .slt v243 c0_i32_134
  let v248 : BitVec 1 := Scalar.xori v246 v247
  let c0_i32_132 : BitVec 32 := 0#32
  let v245 : BitVec 1 := Scalar.cmpi .ne v244 c0_i32_132
  let v249 : BitVec 1 := Scalar.andi v248 v245
  let v250 : BitVec 32 := Scalar.addi v244 v243
  let v251 : BitVec 32 := Scalar.select v249 v250 v244
  let c0_i32_135 : BitVec 32 := 0#32
  let v252 : BitVec 1 := Scalar.cmpi .eq v251 c0_i32_135
  let c1_i32_126 : BitVec 32 := 1#32
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let v238 : BitVec 32 := Scalar.subi c1_i32_126 v69
  let c1_i32_136 : BitVec 32 := 1#32
  let v253 : BitVec 32 := Scalar.subi c1_i32_136 v238
  let v254 : BitVec 32 := Scalar.select v252 v238 v253
  let v255 : BitVec 32 := Scalar.addi v241 v254
  let c1_i32_2230 : BitVec 32 := 1#32
  let v2546 : BitVec 32 := Scalar.muli v255 c1_i32_2230
  let v2547 : BitVec 32 := Scalar.addi c0_i32_2231 v2546
  v2547.toNat
def k0_dev75 (d0 : Dev nD) : Nat :=
  let c0_i32_2254 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_127 : BitVec 32 := 8#32
  let v239 : BitVec 32 := Scalar.muli v19 c8_i32_127
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_128 : BitVec 32 := 2#32
  let v240 : BitVec 32 := Scalar.muli v46 c2_i32_128
  let v241 : BitVec 32 := Scalar.addi v239 v240
  let c2_i32_129 : BitVec 32 := 2#32
  let c0_i32_130 : BitVec 32 := 0#32
  let v242 : BitVec 1 := Scalar.cmpi .eq c2_i32_129 c0_i32_130
  let c1_i32_131 : BitVec 32 := 1#32
  let v243 : BitVec 32 := Scalar.select v242 c1_i32_131 c2_i32_129
  let v244 : BitVec 32 := Scalar.remsi v46 v243
  let c0_i32_133 : BitVec 32 := 0#32
  let v246 : BitVec 1 := Scalar.cmpi .slt v244 c0_i32_133
  let c0_i32_134 : BitVec 32 := 0#32
  let v247 : BitVec 1 := Scalar.cmpi .slt v243 c0_i32_134
  let v248 : BitVec 1 := Scalar.xori v246 v247
  let c0_i32_132 : BitVec 32 := 0#32
  let v245 : BitVec 1 := Scalar.cmpi .ne v244 c0_i32_132
  let v249 : BitVec 1 := Scalar.andi v248 v245
  let v250 : BitVec 32 := Scalar.addi v244 v243
  let v251 : BitVec 32 := Scalar.select v249 v250 v244
  let c0_i32_135 : BitVec 32 := 0#32
  let v252 : BitVec 1 := Scalar.cmpi .eq v251 c0_i32_135
  let c1_i32_126 : BitVec 32 := 1#32
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let v238 : BitVec 32 := Scalar.subi c1_i32_126 v69
  let c1_i32_136 : BitVec 32 := 1#32
  let v253 : BitVec 32 := Scalar.subi c1_i32_136 v238
  let v254 : BitVec 32 := Scalar.select v252 v238 v253
  let v255 : BitVec 32 := Scalar.addi v241 v254
  let c1_i32_2253 : BitVec 32 := 1#32
  let v2574 : BitVec 32 := Scalar.muli v255 c1_i32_2253
  let v2575 : BitVec 32 := Scalar.addi c0_i32_2254 v2574
  v2575.toNat
def k0_dev76 (d0 : Dev nD) : Nat :=
  let c0_i32_2276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_127 : BitVec 32 := 8#32
  let v239 : BitVec 32 := Scalar.muli v19 c8_i32_127
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_128 : BitVec 32 := 2#32
  let v240 : BitVec 32 := Scalar.muli v46 c2_i32_128
  let v241 : BitVec 32 := Scalar.addi v239 v240
  let c2_i32_129 : BitVec 32 := 2#32
  let c0_i32_130 : BitVec 32 := 0#32
  let v242 : BitVec 1 := Scalar.cmpi .eq c2_i32_129 c0_i32_130
  let c1_i32_131 : BitVec 32 := 1#32
  let v243 : BitVec 32 := Scalar.select v242 c1_i32_131 c2_i32_129
  let v244 : BitVec 32 := Scalar.remsi v46 v243
  let c0_i32_133 : BitVec 32 := 0#32
  let v246 : BitVec 1 := Scalar.cmpi .slt v244 c0_i32_133
  let c0_i32_134 : BitVec 32 := 0#32
  let v247 : BitVec 1 := Scalar.cmpi .slt v243 c0_i32_134
  let v248 : BitVec 1 := Scalar.xori v246 v247
  let c0_i32_132 : BitVec 32 := 0#32
  let v245 : BitVec 1 := Scalar.cmpi .ne v244 c0_i32_132
  let v249 : BitVec 1 := Scalar.andi v248 v245
  let v250 : BitVec 32 := Scalar.addi v244 v243
  let v251 : BitVec 32 := Scalar.select v249 v250 v244
  let c0_i32_135 : BitVec 32 := 0#32
  let v252 : BitVec 1 := Scalar.cmpi .eq v251 c0_i32_135
  let c1_i32_126 : BitVec 32 := 1#32
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let v238 : BitVec 32 := Scalar.subi c1_i32_126 v69
  let c1_i32_136 : BitVec 32 := 1#32
  let v253 : BitVec 32 := Scalar.subi c1_i32_136 v238
  let v254 : BitVec 32 := Scalar.select v252 v238 v253
  let v255 : BitVec 32 := Scalar.addi v241 v254
  let c1_i32_2275 : BitVec 32 := 1#32
  let v2602 : BitVec 32 := Scalar.muli v255 c1_i32_2275
  let v2603 : BitVec 32 := Scalar.addi c0_i32_2276 v2602
  v2603.toNat
def k0_dev77 (d0 : Dev nD) : Nat :=
  let c0_i32_2299 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_127 : BitVec 32 := 8#32
  let v239 : BitVec 32 := Scalar.muli v19 c8_i32_127
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_128 : BitVec 32 := 2#32
  let v240 : BitVec 32 := Scalar.muli v46 c2_i32_128
  let v241 : BitVec 32 := Scalar.addi v239 v240
  let c2_i32_129 : BitVec 32 := 2#32
  let c0_i32_130 : BitVec 32 := 0#32
  let v242 : BitVec 1 := Scalar.cmpi .eq c2_i32_129 c0_i32_130
  let c1_i32_131 : BitVec 32 := 1#32
  let v243 : BitVec 32 := Scalar.select v242 c1_i32_131 c2_i32_129
  let v244 : BitVec 32 := Scalar.remsi v46 v243
  let c0_i32_133 : BitVec 32 := 0#32
  let v246 : BitVec 1 := Scalar.cmpi .slt v244 c0_i32_133
  let c0_i32_134 : BitVec 32 := 0#32
  let v247 : BitVec 1 := Scalar.cmpi .slt v243 c0_i32_134
  let v248 : BitVec 1 := Scalar.xori v246 v247
  let c0_i32_132 : BitVec 32 := 0#32
  let v245 : BitVec 1 := Scalar.cmpi .ne v244 c0_i32_132
  let v249 : BitVec 1 := Scalar.andi v248 v245
  let v250 : BitVec 32 := Scalar.addi v244 v243
  let v251 : BitVec 32 := Scalar.select v249 v250 v244
  let c0_i32_135 : BitVec 32 := 0#32
  let v252 : BitVec 1 := Scalar.cmpi .eq v251 c0_i32_135
  let c1_i32_126 : BitVec 32 := 1#32
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let v238 : BitVec 32 := Scalar.subi c1_i32_126 v69
  let c1_i32_136 : BitVec 32 := 1#32
  let v253 : BitVec 32 := Scalar.subi c1_i32_136 v238
  let v254 : BitVec 32 := Scalar.select v252 v238 v253
  let v255 : BitVec 32 := Scalar.addi v241 v254
  let c1_i32_2298 : BitVec 32 := 1#32
  let v2630 : BitVec 32 := Scalar.muli v255 c1_i32_2298
  let v2631 : BitVec 32 := Scalar.addi c0_i32_2299 v2630
  v2631.toNat
def k0_dev78 (d0 : Dev nD) : Nat :=
  let c0_i32_2321 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_127 : BitVec 32 := 8#32
  let v239 : BitVec 32 := Scalar.muli v19 c8_i32_127
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_128 : BitVec 32 := 2#32
  let v240 : BitVec 32 := Scalar.muli v46 c2_i32_128
  let v241 : BitVec 32 := Scalar.addi v239 v240
  let c2_i32_129 : BitVec 32 := 2#32
  let c0_i32_130 : BitVec 32 := 0#32
  let v242 : BitVec 1 := Scalar.cmpi .eq c2_i32_129 c0_i32_130
  let c1_i32_131 : BitVec 32 := 1#32
  let v243 : BitVec 32 := Scalar.select v242 c1_i32_131 c2_i32_129
  let v244 : BitVec 32 := Scalar.remsi v46 v243
  let c0_i32_133 : BitVec 32 := 0#32
  let v246 : BitVec 1 := Scalar.cmpi .slt v244 c0_i32_133
  let c0_i32_134 : BitVec 32 := 0#32
  let v247 : BitVec 1 := Scalar.cmpi .slt v243 c0_i32_134
  let v248 : BitVec 1 := Scalar.xori v246 v247
  let c0_i32_132 : BitVec 32 := 0#32
  let v245 : BitVec 1 := Scalar.cmpi .ne v244 c0_i32_132
  let v249 : BitVec 1 := Scalar.andi v248 v245
  let v250 : BitVec 32 := Scalar.addi v244 v243
  let v251 : BitVec 32 := Scalar.select v249 v250 v244
  let c0_i32_135 : BitVec 32 := 0#32
  let v252 : BitVec 1 := Scalar.cmpi .eq v251 c0_i32_135
  let c1_i32_126 : BitVec 32 := 1#32
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let v238 : BitVec 32 := Scalar.subi c1_i32_126 v69
  let c1_i32_136 : BitVec 32 := 1#32
  let v253 : BitVec 32 := Scalar.subi c1_i32_136 v238
  let v254 : BitVec 32 := Scalar.select v252 v238 v253
  let v255 : BitVec 32 := Scalar.addi v241 v254
  let c1_i32_2320 : BitVec 32 := 1#32
  let v2658 : BitVec 32 := Scalar.muli v255 c1_i32_2320
  let v2659 : BitVec 32 := Scalar.addi c0_i32_2321 v2658
  v2659.toNat
def k0_dev79 (d0 : Dev nD) : Nat :=
  let c0_i32_2344 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_127 : BitVec 32 := 8#32
  let v239 : BitVec 32 := Scalar.muli v19 c8_i32_127
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_128 : BitVec 32 := 2#32
  let v240 : BitVec 32 := Scalar.muli v46 c2_i32_128
  let v241 : BitVec 32 := Scalar.addi v239 v240
  let c2_i32_129 : BitVec 32 := 2#32
  let c0_i32_130 : BitVec 32 := 0#32
  let v242 : BitVec 1 := Scalar.cmpi .eq c2_i32_129 c0_i32_130
  let c1_i32_131 : BitVec 32 := 1#32
  let v243 : BitVec 32 := Scalar.select v242 c1_i32_131 c2_i32_129
  let v244 : BitVec 32 := Scalar.remsi v46 v243
  let c0_i32_133 : BitVec 32 := 0#32
  let v246 : BitVec 1 := Scalar.cmpi .slt v244 c0_i32_133
  let c0_i32_134 : BitVec 32 := 0#32
  let v247 : BitVec 1 := Scalar.cmpi .slt v243 c0_i32_134
  let v248 : BitVec 1 := Scalar.xori v246 v247
  let c0_i32_132 : BitVec 32 := 0#32
  let v245 : BitVec 1 := Scalar.cmpi .ne v244 c0_i32_132
  let v249 : BitVec 1 := Scalar.andi v248 v245
  let v250 : BitVec 32 := Scalar.addi v244 v243
  let v251 : BitVec 32 := Scalar.select v249 v250 v244
  let c0_i32_135 : BitVec 32 := 0#32
  let v252 : BitVec 1 := Scalar.cmpi .eq v251 c0_i32_135
  let c1_i32_126 : BitVec 32 := 1#32
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let v238 : BitVec 32 := Scalar.subi c1_i32_126 v69
  let c1_i32_136 : BitVec 32 := 1#32
  let v253 : BitVec 32 := Scalar.subi c1_i32_136 v238
  let v254 : BitVec 32 := Scalar.select v252 v238 v253
  let v255 : BitVec 32 := Scalar.addi v241 v254
  let c1_i32_2343 : BitVec 32 := 1#32
  let v2686 : BitVec 32 := Scalar.muli v255 c1_i32_2343
  let v2687 : BitVec 32 := Scalar.addi c0_i32_2344 v2686
  v2687.toNat
def k0_off10 (d0 : Dev nD) (c0_i32_2396 : BitVec 32) (c0_i32_2414 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_2395 : BitVec 32 := 1#32
  let v2742 : BitVec 32 := Scalar.addi v88 c1_i32_2395
  let v2743 : BitVec 32 := Scalar.subi v2742 c0_i32_2396
  let c16_i32_2397 : BitVec 32 := 16#32
  let v2744 : BitVec 32 := Scalar.addi v2743 c16_i32_2397
  let c16_i32_2398 : BitVec 32 := 16#32
  let c0_i32_2399 : BitVec 32 := 0#32
  let v2745 : BitVec 1 := Scalar.cmpi .eq c16_i32_2398 c0_i32_2399
  let c1_i32_2400 : BitVec 32 := 1#32
  let v2746 : BitVec 32 := Scalar.select v2745 c1_i32_2400 c16_i32_2398
  let v2747 : BitVec 32 := Scalar.remsi v2744 v2746
  let c0_i32_2402 : BitVec 32 := 0#32
  let v2749 : BitVec 1 := Scalar.cmpi .slt v2747 c0_i32_2402
  let c0_i32_2403 : BitVec 32 := 0#32
  let v2750 : BitVec 1 := Scalar.cmpi .slt v2746 c0_i32_2403
  let v2751 : BitVec 1 := Scalar.xori v2749 v2750
  let c0_i32_2401 : BitVec 32 := 0#32
  let v2748 : BitVec 1 := Scalar.cmpi .ne v2747 c0_i32_2401
  let v2752 : BitVec 1 := Scalar.andi v2751 v2748
  let v2753 : BitVec 32 := Scalar.addi v2747 v2746
  let v2754 : BitVec 32 := Scalar.select v2752 v2753 v2747
  let c128_i32_2413 : BitVec 32 := 128#32
  let v2768 : BitVec 32 := Scalar.muli v2754 c128_i32_2413
  let v2769 : BitVec 32 := Scalar.addi v2768 c0_i32_2414
  let c0_i32_2421 : BitVec 32 := 0#32
  ![v2769.toNat, 0]
def k0_dev80 (d0 : Dev nD) : Nat :=
  let c0_i32_2420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_2419 : BitVec 32 := 1#32
  let v2772 : BitVec 32 := Scalar.muli v220 c1_i32_2419
  let v2773 : BitVec 32 := Scalar.addi c0_i32_2420 v2772
  v2773.toNat
def k0_off11 (d0 : Dev nD) (c0_i32_2405 : BitVec 32) (c0_i32_2416 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_2404 : BitVec 32 := 1#32
  let v2755 : BitVec 32 := Scalar.subi v88 c1_i32_2404
  let v2756 : BitVec 32 := Scalar.addi v2755 c0_i32_2405
  let c16_i32_2406 : BitVec 32 := 16#32
  let v2757 : BitVec 32 := Scalar.addi v2756 c16_i32_2406
  let c16_i32_2407 : BitVec 32 := 16#32
  let c0_i32_2408 : BitVec 32 := 0#32
  let v2758 : BitVec 1 := Scalar.cmpi .eq c16_i32_2407 c0_i32_2408
  let c1_i32_2409 : BitVec 32 := 1#32
  let v2759 : BitVec 32 := Scalar.select v2758 c1_i32_2409 c16_i32_2407
  let v2760 : BitVec 32 := Scalar.remsi v2757 v2759
  let c0_i32_2411 : BitVec 32 := 0#32
  let v2762 : BitVec 1 := Scalar.cmpi .slt v2760 c0_i32_2411
  let c0_i32_2412 : BitVec 32 := 0#32
  let v2763 : BitVec 1 := Scalar.cmpi .slt v2759 c0_i32_2412
  let v2764 : BitVec 1 := Scalar.xori v2762 v2763
  let c0_i32_2410 : BitVec 32 := 0#32
  let v2761 : BitVec 1 := Scalar.cmpi .ne v2760 c0_i32_2410
  let v2765 : BitVec 1 := Scalar.andi v2764 v2761
  let v2766 : BitVec 32 := Scalar.addi v2760 v2759
  let v2767 : BitVec 32 := Scalar.select v2765 v2766 v2760
  let c128_i32_2415 : BitVec 32 := 128#32
  let v2770 : BitVec 32 := Scalar.muli v2767 c128_i32_2415
  let v2771 : BitVec 32 := Scalar.addi v2770 c0_i32_2416
  let c1024_i32_2427 : BitVec 32 := 1024#32
  ![v2771.toNat, 1024]
def k0_dev81 (d0 : Dev nD) : Nat :=
  let c0_i32_2426 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_2425 : BitVec 32 := 1#32
  let v2780 : BitVec 32 := Scalar.muli v237 c1_i32_2425
  let v2781 : BitVec 32 := Scalar.addi c0_i32_2426 v2780
  v2781.toNat
def k0_dev82 (d0 : Dev nD) : Nat :=
  let c0_i32_2436 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_2435 : BitVec 32 := 1#32
  let v2792 : BitVec 32 := Scalar.muli v220 c1_i32_2435
  let v2793 : BitVec 32 := Scalar.addi c0_i32_2436 v2792
  v2793.toNat
def k0_dev83 (d0 : Dev nD) : Nat :=
  let c0_i32_2442 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_2441 : BitVec 32 := 1#32
  let v2800 : BitVec 32 := Scalar.muli v237 c1_i32_2441
  let v2801 : BitVec 32 := Scalar.addi c0_i32_2442 v2800
  v2801.toNat
def k0_dev84 (d0 : Dev nD) : Nat :=
  let c0_i32_2482 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_2481 : BitVec 32 := 1#32
  let v2850 : BitVec 32 := Scalar.muli v220 c1_i32_2481
  let v2851 : BitVec 32 := Scalar.addi c0_i32_2482 v2850
  v2851.toNat
def k0_dev85 (d0 : Dev nD) : Nat :=
  let c0_i32_2488 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_2487 : BitVec 32 := 1#32
  let v2858 : BitVec 32 := Scalar.muli v237 c1_i32_2487
  let v2859 : BitVec 32 := Scalar.addi c0_i32_2488 v2858
  v2859.toNat
def k0_dev86 (d0 : Dev nD) : Nat :=
  let c0_i32_2510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_2509 : BitVec 32 := 1#32
  let v2882 : BitVec 32 := Scalar.muli v220 c1_i32_2509
  let v2883 : BitVec 32 := Scalar.addi c0_i32_2510 v2882
  v2883.toNat
def k0_dev87 (d0 : Dev nD) : Nat :=
  let c0_i32_2516 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_2515 : BitVec 32 := 1#32
  let v2890 : BitVec 32 := Scalar.muli v237 c1_i32_2515
  let v2891 : BitVec 32 := Scalar.addi c0_i32_2516 v2890
  v2891.toNat
def k0_dev88 (d0 : Dev nD) : Nat :=
  let c0_i32_2556 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_2555 : BitVec 32 := 1#32
  let v2940 : BitVec 32 := Scalar.muli v220 c1_i32_2555
  let v2941 : BitVec 32 := Scalar.addi c0_i32_2556 v2940
  v2941.toNat
def k0_dev89 (d0 : Dev nD) : Nat :=
  let c0_i32_2562 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_2561 : BitVec 32 := 1#32
  let v2948 : BitVec 32 := Scalar.muli v237 c1_i32_2561
  let v2949 : BitVec 32 := Scalar.addi c0_i32_2562 v2948
  v2949.toNat
def k0_dev90 (d0 : Dev nD) : Nat :=
  let c0_i32_2584 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_2583 : BitVec 32 := 1#32
  let v2972 : BitVec 32 := Scalar.muli v220 c1_i32_2583
  let v2973 : BitVec 32 := Scalar.addi c0_i32_2584 v2972
  v2973.toNat
def k0_dev91 (d0 : Dev nD) : Nat :=
  let c0_i32_2590 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_2589 : BitVec 32 := 1#32
  let v2980 : BitVec 32 := Scalar.muli v237 c1_i32_2589
  let v2981 : BitVec 32 := Scalar.addi c0_i32_2590 v2980
  v2981.toNat
def k0_dev92 (d0 : Dev nD) : Nat :=
  let c0_i32_2630 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_2629 : BitVec 32 := 1#32
  let v3030 : BitVec 32 := Scalar.muli v220 c1_i32_2629
  let v3031 : BitVec 32 := Scalar.addi c0_i32_2630 v3030
  v3031.toNat
def k0_dev93 (d0 : Dev nD) : Nat :=
  let c0_i32_2636 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_2635 : BitVec 32 := 1#32
  let v3038 : BitVec 32 := Scalar.muli v237 c1_i32_2635
  let v3039 : BitVec 32 := Scalar.addi c0_i32_2636 v3038
  v3039.toNat
def k0_dev94 (d0 : Dev nD) : Nat :=
  let c0_i32_2658 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_2657 : BitVec 32 := 1#32
  let v3062 : BitVec 32 := Scalar.muli v220 c1_i32_2657
  let v3063 : BitVec 32 := Scalar.addi c0_i32_2658 v3062
  v3063.toNat
def k0_dev95 (d0 : Dev nD) : Nat :=
  let c0_i32_2664 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_2663 : BitVec 32 := 1#32
  let v3070 : BitVec 32 := Scalar.muli v237 c1_i32_2663
  let v3071 : BitVec 32 := Scalar.addi c0_i32_2664 v3070
  v3071.toNat
def k0_dev96 (d0 : Dev nD) : Nat :=
  let c0_i32_2704 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_2703 : BitVec 32 := 1#32
  let v3120 : BitVec 32 := Scalar.muli v220 c1_i32_2703
  let v3121 : BitVec 32 := Scalar.addi c0_i32_2704 v3120
  v3121.toNat
def k0_dev97 (d0 : Dev nD) : Nat :=
  let c0_i32_2710 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_2709 : BitVec 32 := 1#32
  let v3128 : BitVec 32 := Scalar.muli v237 c1_i32_2709
  let v3129 : BitVec 32 := Scalar.addi c0_i32_2710 v3128
  v3129.toNat
def k0_dev98 (d0 : Dev nD) : Nat :=
  let c0_i32_2732 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_2731 : BitVec 32 := 1#32
  let v3152 : BitVec 32 := Scalar.muli v220 c1_i32_2731
  let v3153 : BitVec 32 := Scalar.addi c0_i32_2732 v3152
  v3153.toNat
def k0_dev99 (d0 : Dev nD) : Nat :=
  let c0_i32_2738 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_2737 : BitVec 32 := 1#32
  let v3160 : BitVec 32 := Scalar.muli v237 c1_i32_2737
  let v3161 : BitVec 32 := Scalar.addi c0_i32_2738 v3160
  v3161.toNat
def k0_dev100 (d0 : Dev nD) : Nat :=
  let c0_i32_2778 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_2777 : BitVec 32 := 1#32
  let v3210 : BitVec 32 := Scalar.muli v220 c1_i32_2777
  let v3211 : BitVec 32 := Scalar.addi c0_i32_2778 v3210
  v3211.toNat
def k0_dev101 (d0 : Dev nD) : Nat :=
  let c0_i32_2784 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_2783 : BitVec 32 := 1#32
  let v3218 : BitVec 32 := Scalar.muli v237 c1_i32_2783
  let v3219 : BitVec 32 := Scalar.addi c0_i32_2784 v3218
  v3219.toNat
def k0_dev102 (d0 : Dev nD) : Nat :=
  let c0_i32_2806 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_2805 : BitVec 32 := 1#32
  let v3242 : BitVec 32 := Scalar.muli v220 c1_i32_2805
  let v3243 : BitVec 32 := Scalar.addi c0_i32_2806 v3242
  v3243.toNat
def k0_dev103 (d0 : Dev nD) : Nat :=
  let c0_i32_2812 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_2811 : BitVec 32 := 1#32
  let v3250 : BitVec 32 := Scalar.muli v237 c1_i32_2811
  let v3251 : BitVec 32 := Scalar.addi c0_i32_2812 v3250
  v3251.toNat
def k0_dev104 (d0 : Dev nD) : Nat :=
  let c0_i32_2852 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_2851 : BitVec 32 := 1#32
  let v3300 : BitVec 32 := Scalar.muli v220 c1_i32_2851
  let v3301 : BitVec 32 := Scalar.addi c0_i32_2852 v3300
  v3301.toNat
def k0_dev105 (d0 : Dev nD) : Nat :=
  let c0_i32_2858 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_2857 : BitVec 32 := 1#32
  let v3308 : BitVec 32 := Scalar.muli v237 c1_i32_2857
  let v3309 : BitVec 32 := Scalar.addi c0_i32_2858 v3308
  v3309.toNat
def k0_dev106 (d0 : Dev nD) : Nat :=
  let c0_i32_2880 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_2879 : BitVec 32 := 1#32
  let v3332 : BitVec 32 := Scalar.muli v220 c1_i32_2879
  let v3333 : BitVec 32 := Scalar.addi c0_i32_2880 v3332
  v3333.toNat
def k0_dev107 (d0 : Dev nD) : Nat :=
  let c0_i32_2886 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_2885 : BitVec 32 := 1#32
  let v3340 : BitVec 32 := Scalar.muli v237 c1_i32_2885
  let v3341 : BitVec 32 := Scalar.addi c0_i32_2886 v3340
  v3341.toNat
def k0_dev108 (d0 : Dev nD) : Nat :=
  let c0_i32_2926 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_2925 : BitVec 32 := 1#32
  let v3390 : BitVec 32 := Scalar.muli v220 c1_i32_2925
  let v3391 : BitVec 32 := Scalar.addi c0_i32_2926 v3390
  v3391.toNat
def k0_dev109 (d0 : Dev nD) : Nat :=
  let c0_i32_2932 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_2931 : BitVec 32 := 1#32
  let v3398 : BitVec 32 := Scalar.muli v237 c1_i32_2931
  let v3399 : BitVec 32 := Scalar.addi c0_i32_2932 v3398
  v3399.toNat
def k0_dev110 (d0 : Dev nD) : Nat :=
  let c0_i32_2954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_2953 : BitVec 32 := 1#32
  let v3422 : BitVec 32 := Scalar.muli v220 c1_i32_2953
  let v3423 : BitVec 32 := Scalar.addi c0_i32_2954 v3422
  v3423.toNat
def k0_dev111 (d0 : Dev nD) : Nat :=
  let c0_i32_2960 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_2959 : BitVec 32 := 1#32
  let v3430 : BitVec 32 := Scalar.muli v237 c1_i32_2959
  let v3431 : BitVec 32 := Scalar.addi c0_i32_2960 v3430
  v3431.toNat
def k0_dev112 (d0 : Dev nD) : Nat :=
  let c0_i32_3000 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_2999 : BitVec 32 := 1#32
  let v3480 : BitVec 32 := Scalar.muli v220 c1_i32_2999
  let v3481 : BitVec 32 := Scalar.addi c0_i32_3000 v3480
  v3481.toNat
def k0_dev113 (d0 : Dev nD) : Nat :=
  let c0_i32_3006 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_3005 : BitVec 32 := 1#32
  let v3488 : BitVec 32 := Scalar.muli v237 c1_i32_3005
  let v3489 : BitVec 32 := Scalar.addi c0_i32_3006 v3488
  v3489.toNat
def k0_dev114 (d0 : Dev nD) : Nat :=
  let c0_i32_3028 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_3027 : BitVec 32 := 1#32
  let v3512 : BitVec 32 := Scalar.muli v220 c1_i32_3027
  let v3513 : BitVec 32 := Scalar.addi c0_i32_3028 v3512
  v3513.toNat
def k0_dev115 (d0 : Dev nD) : Nat :=
  let c0_i32_3034 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_3033 : BitVec 32 := 1#32
  let v3520 : BitVec 32 := Scalar.muli v237 c1_i32_3033
  let v3521 : BitVec 32 := Scalar.addi c0_i32_3034 v3520
  v3521.toNat
def k0_dev116 (d0 : Dev nD) : Nat :=
  let c0_i32_3074 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_3073 : BitVec 32 := 1#32
  let v3570 : BitVec 32 := Scalar.muli v220 c1_i32_3073
  let v3571 : BitVec 32 := Scalar.addi c0_i32_3074 v3570
  v3571.toNat
def k0_dev117 (d0 : Dev nD) : Nat :=
  let c0_i32_3080 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_3079 : BitVec 32 := 1#32
  let v3578 : BitVec 32 := Scalar.muli v237 c1_i32_3079
  let v3579 : BitVec 32 := Scalar.addi c0_i32_3080 v3578
  v3579.toNat
def k0_dev118 (d0 : Dev nD) : Nat :=
  let c0_i32_3102 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_3101 : BitVec 32 := 1#32
  let v3602 : BitVec 32 := Scalar.muli v220 c1_i32_3101
  let v3603 : BitVec 32 := Scalar.addi c0_i32_3102 v3602
  v3603.toNat
def k0_dev119 (d0 : Dev nD) : Nat :=
  let c0_i32_3108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_3107 : BitVec 32 := 1#32
  let v3610 : BitVec 32 := Scalar.muli v237 c1_i32_3107
  let v3611 : BitVec 32 := Scalar.addi c0_i32_3108 v3610
  v3611.toNat
def k0_dev120 (d0 : Dev nD) : Nat :=
  let c0_i32_3148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_3147 : BitVec 32 := 1#32
  let v3660 : BitVec 32 := Scalar.muli v220 c1_i32_3147
  let v3661 : BitVec 32 := Scalar.addi c0_i32_3148 v3660
  v3661.toNat
def k0_dev121 (d0 : Dev nD) : Nat :=
  let c0_i32_3154 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_3153 : BitVec 32 := 1#32
  let v3668 : BitVec 32 := Scalar.muli v237 c1_i32_3153
  let v3669 : BitVec 32 := Scalar.addi c0_i32_3154 v3668
  v3669.toNat
def k0_dev122 (d0 : Dev nD) : Nat :=
  let c0_i32_3176 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_3175 : BitVec 32 := 1#32
  let v3692 : BitVec 32 := Scalar.muli v220 c1_i32_3175
  let v3693 : BitVec 32 := Scalar.addi c0_i32_3176 v3692
  v3693.toNat
def k0_dev123 (d0 : Dev nD) : Nat :=
  let c0_i32_3182 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_3181 : BitVec 32 := 1#32
  let v3700 : BitVec 32 := Scalar.muli v237 c1_i32_3181
  let v3701 : BitVec 32 := Scalar.addi c0_i32_3182 v3700
  v3701.toNat
def k0_dev124 (d0 : Dev nD) : Nat :=
  let c0_i32_3222 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_3221 : BitVec 32 := 1#32
  let v3750 : BitVec 32 := Scalar.muli v220 c1_i32_3221
  let v3751 : BitVec 32 := Scalar.addi c0_i32_3222 v3750
  v3751.toNat
def k0_dev125 (d0 : Dev nD) : Nat :=
  let c0_i32_3228 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_3227 : BitVec 32 := 1#32
  let v3758 : BitVec 32 := Scalar.muli v237 c1_i32_3227
  let v3759 : BitVec 32 := Scalar.addi c0_i32_3228 v3758
  v3759.toNat
def k0_dev126 (d0 : Dev nD) : Nat :=
  let c0_i32_3250 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_3249 : BitVec 32 := 1#32
  let v3782 : BitVec 32 := Scalar.muli v220 c1_i32_3249
  let v3783 : BitVec 32 := Scalar.addi c0_i32_3250 v3782
  v3783.toNat
def k0_dev127 (d0 : Dev nD) : Nat :=
  let c0_i32_3256 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_3255 : BitVec 32 := 1#32
  let v3790 : BitVec 32 := Scalar.muli v237 c1_i32_3255
  let v3791 : BitVec 32 := Scalar.addi c0_i32_3256 v3790
  v3791.toNat
def k0_dev128 (d0 : Dev nD) : Nat :=
  let c0_i32_3296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_3295 : BitVec 32 := 1#32
  let v3840 : BitVec 32 := Scalar.muli v220 c1_i32_3295
  let v3841 : BitVec 32 := Scalar.addi c0_i32_3296 v3840
  v3841.toNat
def k0_dev129 (d0 : Dev nD) : Nat :=
  let c0_i32_3302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_3301 : BitVec 32 := 1#32
  let v3848 : BitVec 32 := Scalar.muli v237 c1_i32_3301
  let v3849 : BitVec 32 := Scalar.addi c0_i32_3302 v3848
  v3849.toNat
def k0_dev130 (d0 : Dev nD) : Nat :=
  let c0_i32_3324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_3323 : BitVec 32 := 1#32
  let v3872 : BitVec 32 := Scalar.muli v220 c1_i32_3323
  let v3873 : BitVec 32 := Scalar.addi c0_i32_3324 v3872
  v3873.toNat
def k0_dev131 (d0 : Dev nD) : Nat :=
  let c0_i32_3330 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_3329 : BitVec 32 := 1#32
  let v3880 : BitVec 32 := Scalar.muli v237 c1_i32_3329
  let v3881 : BitVec 32 := Scalar.addi c0_i32_3330 v3880
  v3881.toNat
def k0_dev132 (d0 : Dev nD) : Nat :=
  let c0_i32_3370 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_3369 : BitVec 32 := 1#32
  let v3930 : BitVec 32 := Scalar.muli v220 c1_i32_3369
  let v3931 : BitVec 32 := Scalar.addi c0_i32_3370 v3930
  v3931.toNat
def k0_dev133 (d0 : Dev nD) : Nat :=
  let c0_i32_3376 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_3375 : BitVec 32 := 1#32
  let v3938 : BitVec 32 := Scalar.muli v237 c1_i32_3375
  let v3939 : BitVec 32 := Scalar.addi c0_i32_3376 v3938
  v3939.toNat
def k0_dev134 (d0 : Dev nD) : Nat :=
  let c0_i32_3398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_3397 : BitVec 32 := 1#32
  let v3962 : BitVec 32 := Scalar.muli v220 c1_i32_3397
  let v3963 : BitVec 32 := Scalar.addi c0_i32_3398 v3962
  v3963.toNat
def k0_dev135 (d0 : Dev nD) : Nat :=
  let c0_i32_3404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_3403 : BitVec 32 := 1#32
  let v3970 : BitVec 32 := Scalar.muli v237 c1_i32_3403
  let v3971 : BitVec 32 := Scalar.addi c0_i32_3404 v3970
  v3971.toNat
def k0_dev136 (d0 : Dev nD) : Nat :=
  let c0_i32_3444 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_3443 : BitVec 32 := 1#32
  let v4020 : BitVec 32 := Scalar.muli v220 c1_i32_3443
  let v4021 : BitVec 32 := Scalar.addi c0_i32_3444 v4020
  v4021.toNat
def k0_dev137 (d0 : Dev nD) : Nat :=
  let c0_i32_3450 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_3449 : BitVec 32 := 1#32
  let v4028 : BitVec 32 := Scalar.muli v237 c1_i32_3449
  let v4029 : BitVec 32 := Scalar.addi c0_i32_3450 v4028
  v4029.toNat
def k0_dev138 (d0 : Dev nD) : Nat :=
  let c0_i32_3472 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c1_i32_41 : BitVec 32 := 1#32
  let v89 : BitVec 32 := Scalar.addi v88 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c12_i32_70 : BitVec 32 := 12#32
  let v143 : BitVec 1 := Scalar.cmpi .slt v99 c12_i32_70
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c3_i32_47 : BitVec 32 := 3#32
  let c0_i32_50 : BitVec 32 := 0#32
  let v106 : BitVec 1 := Scalar.cmpi .sgt c3_i32_47 c0_i32_50
  let v107 : BitVec 32 := Scalar.extui v106
  let c0_i32_51 : BitVec 32 := 0#32
  let v108 : BitVec 1 := Scalar.cmpi .slt c3_i32_47 c0_i32_51
  let v109 : BitVec 32 := Scalar.extui v108
  let v110 : BitVec 32 := Scalar.subi v107 v109
  let v111 : BitVec 1 := Scalar.cmpi .ne v105 v110
  let v112 : BitVec 32 := Scalar.remsi v99 c3_i32_47
  let c0_i32_52 : BitVec 32 := 0#32
  let v113 : BitVec 1 := Scalar.cmpi .ne v112 c0_i32_52
  let v114 : BitVec 1 := Scalar.andi v111 v113
  let v100 : BitVec 32 := Scalar.divsi v99 c3_i32_47
  let c1_i32_53 : BitVec 32 := 1#32
  let v115 : BitVec 32 := Scalar.subi v100 c1_i32_53
  let v116 : BitVec 32 := Scalar.select v114 v115 v100
  let c15_i32_71 : BitVec 32 := 15#32
  let v144 : BitVec 32 := Scalar.subi c15_i32_71 v99
  let v145 : BitVec 32 := Scalar.select v143 v116 v144
  let c8_i32_106 : BitVec 32 := 8#32
  let v204 : BitVec 32 := Scalar.muli v145 c8_i32_106
  let c12_i32 : BitVec 32 := 12#32
  let v141 : BitVec 1 := Scalar.cmpi .slt v99 c12_i32
  let c2_i32_60 : BitVec 32 := 2#32
  let c0_i32_61 : BitVec 32 := 0#32
  let v127 : BitVec 1 := Scalar.cmpi .eq c2_i32_60 c0_i32_61
  let c1_i32_62 : BitVec 32 := 1#32
  let v128 : BitVec 32 := Scalar.select v127 c1_i32_62 c2_i32_60
  let v129 : BitVec 32 := Scalar.remsi v116 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c0_i32_66 : BitVec 32 := 0#32
  let v137 : BitVec 1 := Scalar.cmpi .eq v136 c0_i32_66
  let c1_i32_67 : BitVec 32 := 1#32
  let c3_i32_54 : BitVec 32 := 3#32
  let c0_i32_55 : BitVec 32 := 0#32
  let v117 : BitVec 1 := Scalar.cmpi .eq c3_i32_54 c0_i32_55
  let c1_i32_56 : BitVec 32 := 1#32
  let v118 : BitVec 32 := Scalar.select v117 c1_i32_56 c3_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v138 : BitVec 32 := Scalar.addi c1_i32_67 v126
  let c3_i32_68 : BitVec 32 := 3#32
  let v139 : BitVec 32 := Scalar.subi c3_i32_68 v126
  let v140 : BitVec 32 := Scalar.select v137 v138 v139
  let c0_i32_69 : BitVec 32 := 0#32
  let v142 : BitVec 32 := Scalar.select v141 v140 c0_i32_69
  let c2_i32_107 : BitVec 32 := 2#32
  let v205 : BitVec 32 := Scalar.muli v142 c2_i32_107
  let v206 : BitVec 32 := Scalar.addi v204 v205
  let c2_i32_108 : BitVec 32 := 2#32
  let c0_i32_109 : BitVec 32 := 0#32
  let v207 : BitVec 1 := Scalar.cmpi .eq c2_i32_108 c0_i32_109
  let c1_i32_110 : BitVec 32 := 1#32
  let v208 : BitVec 32 := Scalar.select v207 c1_i32_110 c2_i32_108
  let v209 : BitVec 32 := Scalar.remsi v142 v208
  let c0_i32_112 : BitVec 32 := 0#32
  let v211 : BitVec 1 := Scalar.cmpi .slt v209 c0_i32_112
  let c0_i32_113 : BitVec 32 := 0#32
  let v212 : BitVec 1 := Scalar.cmpi .slt v208 c0_i32_113
  let v213 : BitVec 1 := Scalar.xori v211 v212
  let c0_i32_111 : BitVec 32 := 0#32
  let v210 : BitVec 1 := Scalar.cmpi .ne v209 c0_i32_111
  let v214 : BitVec 1 := Scalar.andi v213 v210
  let v215 : BitVec 32 := Scalar.addi v209 v208
  let v216 : BitVec 32 := Scalar.select v214 v215 v209
  let c0_i32_114 : BitVec 32 := 0#32
  let v217 : BitVec 1 := Scalar.cmpi .eq v216 c0_i32_114
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_115 : BitVec 32 := 1#32
  let v218 : BitVec 32 := Scalar.subi c1_i32_115 v69
  let v219 : BitVec 32 := Scalar.select v217 v69 v218
  let v220 : BitVec 32 := Scalar.addi v206 v219
  let c1_i32_3471 : BitVec 32 := 1#32
  let v4052 : BitVec 32 := Scalar.muli v220 c1_i32_3471
  let v4053 : BitVec 32 := Scalar.addi c0_i32_3472 v4052
  v4053.toNat
def k0_dev139 (d0 : Dev nD) : Nat :=
  let c0_i32_3478 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_40 : BitVec 32 := 0#32
  let v86 : BitVec 1 := Scalar.cmpi .eq v46 c0_i32_40
  let c15_i32 : BitVec 32 := 15#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v87 : BitVec 32 := Scalar.subi c15_i32 v19
  let c3_i32 : BitVec 32 := 3#32
  let v70 : BitVec 32 := Scalar.muli c3_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c1_i32_38 : BitVec 32 := 1#32
  let v82 : BitVec 32 := Scalar.subi v46 c1_i32_38
  let c3_i32_39 : BitVec 32 := 3#32
  let v83 : BitVec 32 := Scalar.subi c3_i32_39 v46
  let v84 : BitVec 32 := Scalar.select v81 v82 v83
  let v85 : BitVec 32 := Scalar.addi v70 v84
  let v88 : BitVec 32 := Scalar.select v86 v87 v85
  let c16_i32_72 : BitVec 32 := 16#32
  let v146 : BitVec 32 := Scalar.addi v88 c16_i32_72
  let c1_i32_73 : BitVec 32 := 1#32
  let v147 : BitVec 32 := Scalar.subi v146 c1_i32_73
  let c16_i32_74 : BitVec 32 := 16#32
  let c0_i32_75 : BitVec 32 := 0#32
  let v148 : BitVec 1 := Scalar.cmpi .eq c16_i32_74 c0_i32_75
  let c1_i32_76 : BitVec 32 := 1#32
  let v149 : BitVec 32 := Scalar.select v148 c1_i32_76 c16_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c12_i32_104 : BitVec 32 := 12#32
  let v201 : BitVec 1 := Scalar.cmpi .slt v157 c12_i32_104
  let c0_i32_81 : BitVec 32 := 0#32
  let v159 : BitVec 1 := Scalar.cmpi .sgt v157 c0_i32_81
  let v160 : BitVec 32 := Scalar.extui v159
  let c0_i32_82 : BitVec 32 := 0#32
  let v161 : BitVec 1 := Scalar.cmpi .slt v157 c0_i32_82
  let v162 : BitVec 32 := Scalar.extui v161
  let v163 : BitVec 32 := Scalar.subi v160 v162
  let c3_i32_80 : BitVec 32 := 3#32
  let c0_i32_83 : BitVec 32 := 0#32
  let v164 : BitVec 1 := Scalar.cmpi .sgt c3_i32_80 c0_i32_83
  let v165 : BitVec 32 := Scalar.extui v164
  let c0_i32_84 : BitVec 32 := 0#32
  let v166 : BitVec 1 := Scalar.cmpi .slt c3_i32_80 c0_i32_84
  let v167 : BitVec 32 := Scalar.extui v166
  let v168 : BitVec 32 := Scalar.subi v165 v167
  let v169 : BitVec 1 := Scalar.cmpi .ne v163 v168
  let v170 : BitVec 32 := Scalar.remsi v157 c3_i32_80
  let c0_i32_85 : BitVec 32 := 0#32
  let v171 : BitVec 1 := Scalar.cmpi .ne v170 c0_i32_85
  let v172 : BitVec 1 := Scalar.andi v169 v171
  let v158 : BitVec 32 := Scalar.divsi v157 c3_i32_80
  let c1_i32_86 : BitVec 32 := 1#32
  let v173 : BitVec 32 := Scalar.subi v158 c1_i32_86
  let v174 : BitVec 32 := Scalar.select v172 v173 v158
  let c15_i32_105 : BitVec 32 := 15#32
  let v202 : BitVec 32 := Scalar.subi c15_i32_105 v157
  let v203 : BitVec 32 := Scalar.select v201 v174 v202
  let c8_i32_116 : BitVec 32 := 8#32
  let v221 : BitVec 32 := Scalar.muli v203 c8_i32_116
  let c12_i32_102 : BitVec 32 := 12#32
  let v199 : BitVec 1 := Scalar.cmpi .slt v157 c12_i32_102
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v174 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let c0_i32_99 : BitVec 32 := 0#32
  let v195 : BitVec 1 := Scalar.cmpi .eq v194 c0_i32_99
  let c1_i32_100 : BitVec 32 := 1#32
  let c3_i32_87 : BitVec 32 := 3#32
  let c0_i32_88 : BitVec 32 := 0#32
  let v175 : BitVec 1 := Scalar.cmpi .eq c3_i32_87 c0_i32_88
  let c1_i32_89 : BitVec 32 := 1#32
  let v176 : BitVec 32 := Scalar.select v175 c1_i32_89 c3_i32_87
  let v177 : BitVec 32 := Scalar.remsi v157 v176
  let c0_i32_91 : BitVec 32 := 0#32
  let v179 : BitVec 1 := Scalar.cmpi .slt v177 c0_i32_91
  let c0_i32_92 : BitVec 32 := 0#32
  let v180 : BitVec 1 := Scalar.cmpi .slt v176 c0_i32_92
  let v181 : BitVec 1 := Scalar.xori v179 v180
  let c0_i32_90 : BitVec 32 := 0#32
  let v178 : BitVec 1 := Scalar.cmpi .ne v177 c0_i32_90
  let v182 : BitVec 1 := Scalar.andi v181 v178
  let v183 : BitVec 32 := Scalar.addi v177 v176
  let v184 : BitVec 32 := Scalar.select v182 v183 v177
  let v196 : BitVec 32 := Scalar.addi c1_i32_100 v184
  let c3_i32_101 : BitVec 32 := 3#32
  let v197 : BitVec 32 := Scalar.subi c3_i32_101 v184
  let v198 : BitVec 32 := Scalar.select v195 v196 v197
  let c0_i32_103 : BitVec 32 := 0#32
  let v200 : BitVec 32 := Scalar.select v199 v198 c0_i32_103
  let c2_i32_117 : BitVec 32 := 2#32
  let v222 : BitVec 32 := Scalar.muli v200 c2_i32_117
  let v223 : BitVec 32 := Scalar.addi v221 v222
  let c2_i32_118 : BitVec 32 := 2#32
  let c0_i32_119 : BitVec 32 := 0#32
  let v224 : BitVec 1 := Scalar.cmpi .eq c2_i32_118 c0_i32_119
  let c1_i32_120 : BitVec 32 := 1#32
  let v225 : BitVec 32 := Scalar.select v224 c1_i32_120 c2_i32_118
  let v226 : BitVec 32 := Scalar.remsi v200 v225
  let c0_i32_122 : BitVec 32 := 0#32
  let v228 : BitVec 1 := Scalar.cmpi .slt v226 c0_i32_122
  let c0_i32_123 : BitVec 32 := 0#32
  let v229 : BitVec 1 := Scalar.cmpi .slt v225 c0_i32_123
  let v230 : BitVec 1 := Scalar.xori v228 v229
  let c0_i32_121 : BitVec 32 := 0#32
  let v227 : BitVec 1 := Scalar.cmpi .ne v226 c0_i32_121
  let v231 : BitVec 1 := Scalar.andi v230 v227
  let v232 : BitVec 32 := Scalar.addi v226 v225
  let v233 : BitVec 32 := Scalar.select v231 v232 v226
  let c0_i32_124 : BitVec 32 := 0#32
  let v234 : BitVec 1 := Scalar.cmpi .eq v233 c0_i32_124
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_125 : BitVec 32 := 1#32
  let v235 : BitVec 32 := Scalar.subi c1_i32_125 v69
  let v236 : BitVec 32 := Scalar.select v234 v69 v235
  let v237 : BitVec 32 := Scalar.addi v223 v236
  let c1_i32_3477 : BitVec 32 := 1#32
  let v4060 : BitVec 32 := Scalar.muli v237 c1_i32_3477
  let v4061 : BitVec 32 := Scalar.addi c0_i32_3478 v4060
  v4061.toNat
abbrev stage0_0 : Fin 1 → Memref sig .tc .vmem S2048x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Struct.lean ====
/-
# The kernel body as a program over its transfers

The body is 694 effects in a row. `prog` below is the same program written with loops: over the fifteen steps of the
two rings' reduce-scatter, the four row groups of the exchange with the partner, the fifteen steps of the all-gather, and
the waits that collect the sends at the end. Each remote copy is named by `Xf` (which phase, which step, which half,
which direction), and its memory references, semaphores and target are functions of that name. `body_eq_prog` says the
printed body, on the buffers it is called with, is this program.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Regions
public import Idealize.ShloMosaic.Lib.Tactic

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The three devices a device sends to -/

/-- The next device along the ring in the left direction, -/
def left (c : Dev nD) : Dev nD := ⟨k0_dev1 c, k0_dev1_lt c⟩
/-- the next along the ring in the right direction, -/
def right (c : Dev nD) : Dev nD := ⟨k0_dev2 c, k0_dev2_lt c⟩
/-- and the device holding the other half of the pair. -/
def partner (c : Dev nD) : Dev nD := ⟨k0_dev3 c, k0_dev3_lt c⟩

/-! ## The remote copies -/

/-- The kernel's remote copies: reduce-scatter step `s` of half `p`; rows `p` of the exchange with the partner; rows `p` of
    the exchange of finished rows; all-gather step `s` of half `p`. The last entry is the direction: `false` the right
    ring (left columns), `true` the left ring (right columns). -/
inductive Xf
  | rs (s : Fin 15) (p : Fin 2) (d : Bool)
  | xx (p : Fin 4) (d : Bool)
  | gg (p : Fin 4) (d : Bool)
  | ag (s : Fin 15) (p : Fin 2) (d : Bool)
  deriving DecidableEq

/-- The remote copies are finitely many: thirty and thirty for each of the four families of a step, eight and eight for
    the two of the exchange. -/
def xfEquiv : (Fin 15 × Fin 2 × Bool) ⊕ (Fin 4 × Bool) ⊕ (Fin 4 × Bool) ⊕ (Fin 15 × Fin 2 × Bool) ≃ Xf where
  toFun
    | .inl (s, p, d) => .rs s p d
    | .inr (.inl (p, d)) => .xx p d
    | .inr (.inr (.inl (p, d))) => .gg p d
    | .inr (.inr (.inr (s, p, d))) => .ag s p d
  invFun
    | .rs s p d => .inl (s, p, d)
    | .xx p d => .inr (.inl (p, d))
    | .gg p d => .inr (.inr (.inl (p, d)))
    | .ag s p d => .inr (.inr (.inr (s, p, d)))
  left_inv t := by rcases t with ⟨s, p, d⟩ | ⟨p, d⟩ | ⟨p, d⟩ | ⟨s, p, d⟩ <;> rfl
  right_inv t := by cases t <;> rfl

instance : Fintype Xf := Fintype.ofEquiv _ xfEquiv

/-- The shape a copy moves. -/
def shp : Xf → Shape
  | .rs _ _ _ => S64x1024
  | .xx _ _ => S16x1024
  | .gg _ _ => S16x1024
  | .ag _ _ _ => S64x1024

abbrev xM : Memref sig .tc .vmem S2048x64 .f32 := Memref.whole cc0_stg0_0
abbrev wM : Memref sig .tc .vmem S64x2048 .f32 := Memref.whole cc0_stg1_0
abbrev oM : Memref sig .tc .vmem S2048x2048 .f32 := Memref.whole cc0_stg2_0

/-- The buffer of a direction's first partial products, -/
def iM : Bool → Memref sig .tc .vmem S128x1024 .f32
  | false => Memref.whole cc0_scratch0
  | true => Memref.whole cc0_scratch1
/-- its ring buffer of fifteen slots, -/
def rM : Bool → Memref sig .tc .vmem S15x128x1024 .f32
  | false => Memref.whole cc0_scratch2
  | true => Memref.whole cc0_scratch3
/-- and its buffer for the partner's rows. -/
def hM : Bool → Memref sig .tc .vmem S64x1024 .f32
  | false => Memref.whole cc0_scratch4
  | true => Memref.whole cc0_scratch5

theorem inb_i (p : Fin 2) : ∀ a, (![64 * p.val, 0] : Fin 2 → Nat) a + S64x1024.size a ≤ S128x1024.size a := by
  revert p; decide
theorem inb_r (s : Fin 15) (p : Fin 2) : ∀ a, (![s.val, 64 * p.val, 0] : Fin 3 → Nat) a + S1x64x1024.size a ≤ S15x128x1024.size a := by
  revert s p; decide
theorem inb_h (p : Fin 4) : ∀ a, (![16 * p.val, 0] : Fin 2 → Nat) a + S16x1024.size a ≤ S64x1024.size a := by
  revert p; decide

/-- Half `p` of the first partial products. -/
def iSl (d : Bool) (p : Fin 2) : Memref sig .tc .vmem S64x1024 .f32 :=
  (iM d).slice (Rect.unit (s := S128x1024) ![64 * p.val, 0] S64x1024.size (inb_i p)) (fun _ => rfl)
/-- The rectangle of half `p` of slot `s`. -/
abbrev rRect (s : Fin 15) (p : Fin 2) : Rect S15x128x1024 :=
  Rect.unit (s := S15x128x1024) ![s.val, 64 * p.val, 0] S1x64x1024.size (inb_r s p)
/-- Half `p` of slot `s` of the ring buffer. -/
def rSl (d : Bool) (s : Fin 15) (p : Fin 2) : Memref sig .tc .vmem S64x1024 .f32 :=
  ((rM d).slice (rRect s p) (fun _ => rfl)).squeeze S64x1024 squeezes_S1x64x1024_S64x1024
/-- Rows `p` of the half of the last slot that goes to the partner. -/
def gSl (d : Bool) (c : Dev nD) (p : Fin 4) : Memref sig .tc .vmem S16x1024 .f32 :=
  ((rM d).slice (Rect.unit (s := S15x128x1024) (k0_off4 c (BitVec.ofNat 32 (16 * p.val))) S1x16x1024.size (k0_off4_inb c p)) (fun _ => rfl)).squeeze
    S16x1024 squeezes_S1x16x1024_S16x1024
/-- Rows `p` of the buffer for the partner's rows. -/
abbrev hRect (p : Fin 4) : Rect S64x1024 := Rect.unit (s := S64x1024) ![16 * p.val, 0] S16x1024.size (inb_h p)
def hSl (d : Bool) (p : Fin 4) : Memref sig .tc .vmem S16x1024 .f32 := (hM d).slice (hRect p) (fun _ => rfl)
/-- Where rows `p` of the finished rows start in the result, when they are sent -/
def fOff (c : Dev nD) (p : Fin 4) : Bool → Fin 2 → Nat
  | false => k0_off7 c (BitVec.ofNat 32 (16 * p.val))
  | true => k0_off9 c (BitVec.ofNat 32 (16 * p.val))
/-- and when they are stored; -/
def oOff (c : Dev nD) (p : Fin 4) : Bool → Fin 2 → Nat
  | false => k0_off6 c (BitVec.ofNat 32 (16 * p.val))
  | true => k0_off8 c (BitVec.ofNat 32 (16 * p.val))
/-- where half `p` of the chunk of the result passed on at all-gather step `s` starts. -/
def aOff (c : Dev nD) (s : Fin 15) (p : Fin 2) : Bool → Fin 2 → Nat
  | false => k0_off10 c (BitVec.ofNat 32 s.val) (BitVec.ofNat 32 (64 * p.val))
  | true => k0_off11 c (BitVec.ofNat 32 s.val) (BitVec.ofNat 32 (64 * p.val))
theorem fOff_inb (c : Dev nD) (p : Fin 4) (d : Bool) : ∀ a, fOff c p d a + S16x1024.size a ≤ S2048x2048.size a := by
  cases d
  · exact k0_off7_inb c p
  · exact k0_off9_inb c p
theorem oOff_inb (c : Dev nD) (p : Fin 4) (d : Bool) : ∀ a, oOff c p d a + S16x1024.size a ≤ S2048x2048.size a := by
  cases d
  · exact k0_off6_inb c p
  · exact k0_off8_inb c p
theorem aOff_inb (c : Dev nD) (s : Fin 15) (p : Fin 2) (d : Bool) : ∀ a, aOff c s p d a + S64x1024.size a ≤ S2048x2048.size a := by
  cases d
  · exact k0_off10_inb c s p
  · exact k0_off11_inb c s p
abbrev fRect (c : Dev nD) (p : Fin 4) (d : Bool) : Rect S2048x2048 := Rect.unit (s := S2048x2048) (fOff c p d) S16x1024.size (fOff_inb c p d)
abbrev oRect (c : Dev nD) (p : Fin 4) (d : Bool) : Rect S2048x2048 := Rect.unit (s := S2048x2048) (oOff c p d) S16x1024.size (oOff_inb c p d)
abbrev aRect (c : Dev nD) (s : Fin 15) (p : Fin 2) (d : Bool) : Rect S2048x2048 :=
  Rect.unit (s := S2048x2048) (aOff c s p d) S64x1024.size (aOff_inb c s p d)
/-- Rows `p` of the finished rows in the result. -/
def fSl (c : Dev nD) (p : Fin 4) (d : Bool) : Memref sig .tc .vmem S16x1024 .f32 := oM.slice (fRect c p d) (fun _ => rfl)
/-- Half `p` of the chunk of the result passed on at all-gather step `s`. -/
def aSl (c : Dev nD) (s : Fin 15) (p : Fin 2) (d : Bool) : Memref sig .tc .vmem S64x1024 .f32 := oM.slice (aRect c s p d) (fun _ => rfl)

/-- The source of a copy, on the device `c` that sends it. -/
def srcM (c : Dev nD) : (t : Xf) → Memref sig .tc .vmem (shp t) .f32
  | .rs ⟨0, _⟩ p d => iSl d p
  | .rs ⟨s + 1, h⟩ p d => rSl d ⟨s, Nat.lt_of_succ_lt h⟩ p
  | .xx p d => gSl d c p
  | .gg p d => fSl c p d
  | .ag s p d => aSl c s p d

/-- The destination of a copy, on the device it goes to; `c` is the device that sends it. -/
def dstM (c : Dev nD) : (t : Xf) → Memref sig .tc .vmem (shp t) .f32
  | .rs s p d => rSl d s p
  | .xx p d => hSl d p
  | .gg p d => fSl c p d
  | .ag s p d => aSl c s p d

/-- The device a copy goes to. -/
def tgt (c : Dev nD) : Xf → Dev nD
  | .rs _ _ false => right c
  | .rs _ _ true => left c
  | .xx _ _ => partner c
  | .gg _ _ => partner c
  | .ag _ _ false => right c
  | .ag _ _ true => left c

theorem inb_s30 (s : Fin 15) (p : Fin 2) : ∀ a, (![2 * s.val + p.val] : Fin 1 → Nat) a + S1.size a ≤ S30.size a := by
  revert s p; decide
theorem inb_s4 (p : Fin 4) : ∀ a, (![p.val] : Fin 1 → Nat) a + S1.size a ≤ S4.size a := by
  revert p; decide
/-- Semaphore `2 s + p` of an array of thirty; -/
def sem30 (a : DmaSems sig S30) (s : Fin 15) (p : Fin 2) : DmaSem sig :=
  ((a.slice (Rect.unit (s := S30) ![2 * s.val + p.val] S1.size (inb_s30 s p))).squeeze S_ squeezes_S1_S_).sem
/-- semaphore `p` of an array of four. -/
def sem4 (a : DmaSems sig S4) (p : Fin 4) : DmaSem sig :=
  ((a.slice (Rect.unit (s := S4) ![p.val] S1.size (inb_s4 p))).squeeze S_ squeezes_S1_S_).sem

/-- The semaphore the sender of a copy waits on, -/
def ssem : Xf → DmaSem sig
  | .rs s p false => sem30 cc0_scratch6 s p
  | .rs s p true => sem30 cc0_scratch8 s p
  | .xx p false => sem4 cc0_scratch10 p
  | .xx p true => sem4 cc0_scratch12 p
  | .gg p false => sem4 cc0_scratch14 p
  | .gg p true => sem4 cc0_scratch16 p
  | .ag s p false => sem30 cc0_scratch18 s p
  | .ag s p true => sem30 cc0_scratch20 s p
/-- and the one its receiver waits on. -/
def rsem : Xf → DmaSem sig
  | .rs s p false => sem30 cc0_scratch7 s p
  | .rs s p true => sem30 cc0_scratch9 s p
  | .xx p false => sem4 cc0_scratch11 p
  | .xx p true => sem4 cc0_scratch13 p
  | .gg p false => sem4 cc0_scratch15 p
  | .gg p true => sem4 cc0_scratch17 p
  | .ag s p false => sem30 cc0_scratch19 s p
  | .ag s p true => sem30 cc0_scratch21 s p

theorem dst_sc (c : Dev nD) (t : Xf) : (dstM c t).view.ref.isScScratch = false := by
  rcases t with ⟨s, p, d⟩ | ⟨p, d⟩ | ⟨p, d⟩ | ⟨s, p, d⟩ <;> cases d <;> rfl

/-! ## The program -/

variable (F) in
abbrev PG : Type _ := Prog (TpuEff nD τ sig (Elt F) Λ₀ .tc) PUnit

/-- The body of a loop over a list, ending in `k`. -/
def iter {ι : Type} (l : List ι) (f : ι → PG F → PG F) (k : PG F) : PG F := l.foldr f k

/-- Issue copy `t`. -/
def sendOp (c : Dev nD) (t : Xf) (k : PG F) : PG F :=
  .op (.enqueueDma (srcM c t) (.remote (Dev.tc (tgt c t)) (dstM c t) (.dma (ssem t)) (dst_sc c t)) (.dma (rsem t))
    (View.wordExact_bits rfl) (View.wordExact_bits rfl) ⟨⟨rfl, Or.inl rfl⟩, trivial⟩) fun _ => k
/-- Wait for copy `t` to arrive. -/
def recvOp (c : Dev nD) (t : Xf) (k : PG F) : PG F :=
  .op (.waitDma2 (rsem t) (srcM c t) (dstM c t) (View.wordExact_bits rfl) (View.wordExact_bits rfl)) fun _ => k
/-- Wait for copy `t` to have been sent. -/
def doneOp (c : Dev nD) (t : Xf) (k : PG F) : PG F :=
  .op (.waitDma2 (ssem t) (dstM c t) (srcM c t) (View.wordExact_bits rfl) (View.wordExact_bits rfl)) fun _ => k

abbrev x1Rect (c : Dev nD) : Rect S2048x64 := Rect.unit (s := S2048x64) (k0_off1 c) S128x64.size (k0_off1_inb c)
abbrev x2Rect (c : Dev nD) (s : Fin 15) : Rect S2048x64 :=
  Rect.unit (s := S2048x64) (k0_off2 c (BitVec.ofNat 32 s.val)) S128x64.size (k0_off2_inb c s)
abbrev x3Rect (c : Dev nD) (s : Fin 15) : Rect S2048x64 :=
  Rect.unit (s := S2048x64) (k0_off3 c (BitVec.ofNat 32 s.val)) S128x64.size (k0_off3_inb c s)
abbrev w0Rect : Rect S64x2048 := Rect.unit (s := S64x2048) ![0, 0] S64x1024.size inb_S64x2048_S64x1024_0_0
abbrev w1Rect : Rect S64x2048 := Rect.unit (s := S64x2048) ![0, 1024] S64x1024.size inb_S64x2048_S64x1024_0_1024
abbrev iRect : Rect S128x1024 := Rect.unit (s := S128x1024) ![0, 0] S128x1024.size inb_S128x1024_S128x1024_0_0

/-- The first partial products of both directions. -/
def initOps (c : Dev nD) (k : PG F) : PG F :=
  .op (.load xM (x1Rect c).toLoadRect (View.loadsAt_vmem h_S128x64)) fun va =>
  .op (.load wM w0Rect.toLoadRect (View.loadsAt_vmem h_S64x1024)) fun wa =>
  .op (.load (iM false) iRect.toLoadRect (View.loadsAt_vmem h_S128x1024)) fun _ =>
  .op (.store (iM false) iRect (k0_pay1 va wa) Finset.univ (View.stores_vmem_bits_univ h_S128x1024 rfl) (.inl rfl)) fun _ =>
  .op (.load xM (x1Rect c).toLoadRect (View.loadsAt_vmem h_S128x64)) fun vb =>
  .op (.load wM w1Rect.toLoadRect (View.loadsAt_vmem h_S64x1024)) fun wb =>
  .op (.load (iM true) iRect.toLoadRect (View.loadsAt_vmem h_S128x1024)) fun _ =>
  .op (.store (iM true) iRect (k0_pay1 vb wb) Finset.univ (View.stores_vmem_bits_univ h_S128x1024 rfl) (.inl rfl)) fun _ => k

/-- The partial products of the chunks that arrive at step `s`, of both directions. -/
def partOps (c : Dev nD) (s : Fin 15) (k : FVec F S128x1024 .f32 → FVec F S128x1024 .f32 → PG F) : PG F :=
  .op (.load xM (x2Rect c s).toLoadRect (View.loadsAt_vmem h_S128x64)) fun va =>
  .op (.load wM w0Rect.toLoadRect (View.loadsAt_vmem h_S64x1024)) fun wa =>
  .op (.load xM (x3Rect c s).toLoadRect (View.loadsAt_vmem h_S128x64)) fun vb =>
  .op (.load wM w1Rect.toLoadRect (View.loadsAt_vmem h_S64x1024)) fun wb => k (k0_pay3 va wa) (k0_pay3 vb wb)

/-- A half of a partial product added to what has arrived. -/
def accV : Fin 2 → FVec F S128x1024 .f32 → Vec F S1x64x1024 .f32 → FVec F S1x64x1024 .f32
  | ⟨0, _⟩ => k0_pay6
  | ⟨_ + 1, _⟩ => k0_pay8

/-- Wait for half `p` of step `s` and add this device's partial product to it. -/
def accOps (c : Dev nD) (s : Fin 15) (p : Fin 2) (d : Bool) (P : FVec F S128x1024 .f32) (k : PG F) : PG F :=
  recvOp c (.rs s p d) <|
  .op (.load (rM d) (rRect s p).toLoadRect (View.loadsAt_vmem h_S1x64x1024)) fun v =>
  .op (.load (rM d) (rRect s p).toLoadRect (View.loadsAt_vmem h_S1x64x1024)) fun _ =>
  .op (.store (rM d) (rRect s p) (accV p P v) Finset.univ (View.stores_vmem_bits_univ h_S1x64x1024 rfl) (.inl rfl)) fun _ => k

/-- Step `s` of the reduce-scatter but the last, -/
def rsStep (c : Dev nD) (s : Fin 14) (k : PG F) : PG F :=
  partOps c s.castSucc fun P Q => iter [0, 1] (fun p k =>
    accOps c s.castSucc p false P <| sendOp c (.rs s.succ p false) <|
    accOps c s.castSucc p true Q <| sendOp c (.rs s.succ p true) k) k
/-- and the last. -/
def rsLast (c : Dev nD) (k : PG F) : PG F :=
  partOps c 14 fun P Q => iter [0, 1] (fun p k => accOps c 14 p false P <| accOps c 14 p true Q k) k

abbrev kRect (c : Dev nD) (p : Fin 4) : Rect S15x128x1024 :=
  Rect.unit (s := S15x128x1024) (k0_off5 c (BitVec.ofNat 32 (16 * p.val))) S1x16x1024.size (k0_off5_inb c p)
/-- Wait for the partner's rows `p`, add them to this device's, apply the epilogue and store the finished rows. -/
def finOps (c : Dev nD) (p : Fin 4) (d : Bool) (k : PG F) : PG F :=
  recvOp c (.xx p d) <|
  .op (.load (rM d) (kRect c p).toLoadRect (View.loadsAt_vmem h_S1x16x1024)) fun v =>
  .op (.load (hM d) (hRect p).toLoadRect (View.loadsAt_vmem h_S16x1024)) fun u =>
  .op (.load oM (oRect c p d).toLoadRect (View.loadsAt_vmem h_S16x1024)) fun _ =>
  .op (.store oM (oRect c p d) (k0_pay105 v u) Finset.univ (View.stores_vmem_bits_univ h_S16x1024 rfl) (.inl rfl)) fun _ => k

/-- All-gather step `s + 1`: what arrived at step `s` is passed on. -/
def agStep (c : Dev nD) (s : Fin 14) (k : PG F) : PG F :=
  iter [0, 1] (fun p k =>
    recvOp c (.ag s.castSucc p false) <| recvOp c (.ag s.castSucc p true) <|
    sendOp c (.ag s.succ p false) <| sendOp c (.ag s.succ p true) k) k

abbrev barS : Sem sig := (SemArray.scalar (sig.barrier 0 rfl) : Sems sig S_).sem

abbrev l14 : List (Fin 14) := [0, 1, 2, 3, 4, 5, 6, 7, 8, 9, 10, 11, 12, 13]
abbrev l15 : List (Fin 15) := [0, 1, 2, 3, 4, 5, 6, 7, 8, 9, 10, 11, 12, 13, 14]
abbrev l4 : List (Fin 4) := [0, 1, 2, 3]
abbrev l2 : List (Fin 2) := [0, 1]

/-- The greeting of the three neighbours. -/
def greet (c : Dev nD) (k : PG F) : PG F :=
  .op (.semSignal ((left c : Thread nD τ)) barS 1) fun _ =>
  .op (.semSignal ((right c : Thread nD τ)) barS 1) fun _ =>
  .op (.semSignal ((partner c : Thread nD τ)) barS 1) fun _ =>
  .op (.semWait barS 3) fun _ => k

/-- The two rings' reduce-scatter. -/
def rsPhase (c : Dev nD) (k : PG F) : PG F :=
  initOps c <| iter l2 (fun p k => sendOp c (.rs 0 p false) <| sendOp c (.rs 0 p true) k) <|
  iter l14 (rsStep c) <| rsLast c k

/-- The exchange with the partner. -/
def xPhase (c : Dev nD) (k : PG F) : PG F :=
  iter l4 (fun p k => sendOp c (.xx p false) <| sendOp c (.xx p true) k) <|
  iter l4 (fun p k => finOps c p false <| sendOp c (.gg p false) <| finOps c p true <| sendOp c (.gg p true) k) <|
  iter l4 (fun p k => recvOp c (.gg p false) <| recvOp c (.gg p true) k) k

/-- The two rings' all-gather. -/
def agPhase (c : Dev nD) (k : PG F) : PG F :=
  iter l2 (fun p k => sendOp c (.ag 0 p false) <| sendOp c (.ag 0 p true) k) <|
  iter l14 (agStep c) <|
  iter l2 (fun p k => recvOp c (.ag 14 p false) <| recvOp c (.ag 14 p true) k) k

/-- The waits for the sends. -/
def drain (c : Dev nD) (k : PG F) : PG F :=
  iter l15 (fun s k => iter l2 (fun p k => doneOp c (.rs s p false) k) <| iter l2 (fun p k => doneOp c (.rs s p true) k) k) <|
  iter l4 (fun p k => doneOp c (.xx p false) k) <| iter l4 (fun p k => doneOp c (.xx p true) k) <|
  iter l4 (fun p k => doneOp c (.gg p false) k) <| iter l4 (fun p k => doneOp c (.gg p true) k) <|
  iter l15 (fun s k => iter l2 (fun p k => doneOp c (.ag s p false) k) <| iter l2 (fun p k => doneOp c (.ag s p true) k) k) k

/-- The body. -/
def prog : PG F :=
  .op .deviceId fun c => greet c <| rsPhase c <| xPhase c <| agPhase c <| drain c (.ret ⟨⟩)

set_option maxRecDepth 65536 in
/-- The printed body, on the buffers the launch calls it with, is `prog`. -/
theorem body_eq_prog : bodyAt0 (F := F) t0_0 = prog := by
  chain_rfl

end Cert.Ring
end
-- ==== Proof.Mesh.lean ====
/-
# Where a device sits, and which rows it works on

The 32 devices form two rings of sixteen, joined in pairs. `pos c` is a device's place along its ring, `half c` which of
the two rings of its pair it is on. This module relates the printed device arithmetic to these two numbers, gives the
printed slice offsets in them, and numbers the semaphores.
-/
module

public import proofs.«01_k».proof.Proof.Struct

@[expose] public section

noncomputable section

namespace Cert.Ring

open Cert.KernelIdeal Cert.KernelIdeal.Gen

open Idealize.ShloMosaic
open Idealize.ShloMosaic.TcCoe

/-- Which device of its pair a device is: the half of a chunk it finishes. -/
def half (c : Dev nD) : Fin 2 := if (c.val % 8 / 2) % 2 = 0 then ⟨c.val % 2, Nat.mod_lt _ (by decide)⟩ else ⟨1 - c.val % 2, by omega⟩

/-- A device's place along its ring of sixteen. -/
def pos (c : Dev nD) : Fin 16 := ⟨(k0_off1 c 0) / 128 % 16, Nat.mod_lt _ (by decide)⟩

/-- The device before along a direction, -/
def prv (c : Dev nD) : Bool → Dev nD
  | false => left c
  | true => right c

/-- the device a copy comes from. -/
def frm (c : Dev nD) : Xf → Dev nD
  | .rs _ _ d => prv c d
  | .xx _ _ => partner c
  | .gg _ _ => partner c
  | .ag _ _ d => prv c d

/-- The chunk of rows a direction's sum is complete on at a device. -/
def own (c : Dev nD) : Bool → Fin 16
  | false => pos c + 1
  | true => pos c - 1

/-- The chunk a device sends on at all-gather step `s`. -/
def agc (c : Dev nD) (s : Fin 15) : Bool → Fin 16
  | false => pos c + 1 - s.castSucc
  | true => pos c - 1 + s.castSucc

/-! ## The neighbours -/

theorem left_right (c : Dev nD) : left (right c) = c := by revert c; decide +kernel
theorem right_left (c : Dev nD) : right (left c) = c := by revert c; decide +kernel
theorem partner_partner (c : Dev nD) : partner (partner c) = c := by revert c; decide +kernel
theorem coords (c : Dev nD) : pos (right c) = pos c + 1 ∧ half (right c) = half c ∧ pos (left c) = pos c - 1 ∧ half (left c) = half c
    ∧ pos (partner c) = pos c ∧ half (partner c) = 1 - half c := by
  have h : ∀ c : Dev nD, pos (right c) = pos c + 1 ∧ half (right c) = half c ∧ pos (left c) = pos c - 1 ∧ half (left c) = half c
    ∧ pos (partner c) = pos c ∧ half (partner c) = 1 - half c := by decide +kernel
  exact h c
theorem pos_right (c : Dev nD) : pos (right c) = pos c + 1 := (coords c).1
theorem half_right (c : Dev nD) : half (right c) = half c := (coords c).2.1
theorem pos_left (c : Dev nD) : pos (left c) = pos c - 1 := (coords c).2.2.1
theorem half_left (c : Dev nD) : half (left c) = half c := (coords c).2.2.2.1
theorem pos_partner (c : Dev nD) : pos (partner c) = pos c := (coords c).2.2.2.2.1
theorem half_partner (c : Dev nD) : half (partner c) = 1 - half c := (coords c).2.2.2.2.2

theorem tgt_frm (c : Dev nD) : (t : Xf) → tgt (frm c t) t = c
  | .rs _ _ false => right_left c
  | .rs _ _ true => left_right c
  | .xx _ _ => partner_partner c
  | .gg _ _ => partner_partner c
  | .ag _ _ false => right_left c
  | .ag _ _ true => left_right c
theorem frm_tgt (c : Dev nD) : (t : Xf) → frm (tgt c t) t = c
  | .rs _ _ false => left_right c
  | .rs _ _ true => right_left c
  | .xx _ _ => partner_partner c
  | .gg _ _ => partner_partner c
  | .ag _ _ false => left_right c
  | .ag _ _ true => right_left c

/-! ## The printed offsets -/

theorem off1_eq (c : Dev nD) : k0_off1 c = ![128 * (pos c).val, 0] := by revert c; decide +kernel
theorem off2_eq (c : Dev nD) (s : Fin 15) : k0_off2 c (BitVec.ofNat 32 s.val) = ![128 * (pos c - s.castSucc - 1).val, 0] := by
  revert c s; decide +kernel
theorem off3_eq (c : Dev nD) (s : Fin 15) : k0_off3 c (BitVec.ofNat 32 s.val) = ![128 * (pos c + s.castSucc + 1).val, 0] := by
  revert c s; decide +kernel
theorem off4_eq (c : Dev nD) (p : Fin 4) :
    k0_off4 c (BitVec.ofNat 32 (16 * p.val)) = ![14, 64 * (1 - half c : Fin 2).val + 16 * p.val, 0] := by revert c p; decide +kernel
theorem off5_eq (c : Dev nD) (p : Fin 4) :
    k0_off5 c (BitVec.ofNat 32 (16 * p.val)) = ![14, 64 * (half c).val + 16 * p.val, 0] := by revert c p; decide +kernel
theorem off6_eq (c : Dev nD) (p : Fin 4) :
    k0_off6 c (BitVec.ofNat 32 (16 * p.val)) = ![128 * (own c false).val + 64 * (half c).val + 16 * p.val, 0] := by
  revert c p; decide +kernel
theorem off7_eq (c : Dev nD) (p : Fin 4) :
    k0_off7 c (BitVec.ofNat 32 (16 * p.val)) = ![128 * (own c false).val + 64 * (half c).val + 16 * p.val, 0] := by
  revert c p; decide +kernel
theorem off8_eq (c : Dev nD) (p : Fin 4) :
    k0_off8 c (BitVec.ofNat 32 (16 * p.val)) = ![128 * (own c true).val + 64 * (half c).val + 16 * p.val, 1024] := by
  revert c p; decide +kernel
theorem off9_eq (c : Dev nD) (p : Fin 4) :
    k0_off9 c (BitVec.ofNat 32 (16 * p.val)) = ![128 * (own c true).val + 64 * (half c).val + 16 * p.val, 1024] := by
  revert c p; decide +kernel
theorem off10_eq (c : Dev nD) (s : Fin 15) (p : Fin 2) :
    k0_off10 c (BitVec.ofNat 32 s.val) (BitVec.ofNat 32 (64 * p.val)) = ![128 * (agc c s false).val + 64 * p.val, 0] := by
  revert c s p; decide +kernel
theorem off11_eq (c : Dev nD) (s : Fin 15) (p : Fin 2) :
    k0_off11 c (BitVec.ofNat 32 s.val) (BitVec.ofNat 32 (64 * p.val)) = ![128 * (agc c s true).val + 64 * p.val, 1024] := by
  revert c s p; decide +kernel

/-! ## The semaphores -/

/-- The pair `2 s + p` numbers, -/
def dec30 (n : ℕ) : Fin 15 × Fin 2 := (⟨n / 2 % 15, Nat.mod_lt _ (by decide)⟩, ⟨n % 2, Nat.mod_lt _ (by decide)⟩)
def dec4 (n : ℕ) : Fin 4 := ⟨n % 4, Nat.mod_lt _ (by decide)⟩

/-- Which copy a DMA semaphore belongs to, and whether it is its receiver's (`true`) or its sender's. -/
def dec (n : ℕ) : Option (Bool × Xf) :=
  if n < 3 then none
  else if n < 123 then
    let k := n - 3
    some (decide (k / 30 % 2 = 1), .rs (dec30 (k % 30)).1 (dec30 (k % 30)).2 (decide (k / 60 = 1)))
  else if n < 139 then
    let k := n - 123
    some (decide (k / 4 % 2 = 1), .xx (dec4 k) (decide (k / 8 = 1)))
  else if n < 155 then
    let k := n - 139
    some (decide (k / 4 % 2 = 1), .gg (dec4 k) (decide (k / 8 = 1)))
  else if n < 275 then
    let k := n - 155
    some (decide (k / 30 % 2 = 1), .ag (dec30 (k % 30)).1 (dec30 (k % 30)).2 (decide (k / 60 = 1)))
  else none

theorem dec_ssem (t : Xf) : dec (ssem t).val = some (false, t) := by
  rcases t with ⟨s, p, d⟩ | ⟨p, d⟩ | ⟨p, d⟩ | ⟨s, p, d⟩ <;> revert p d <;> (try revert s) <;> decide +kernel
theorem dec_rsem (t : Xf) : dec (rsem t).val = some (true, t) := by
  rcases t with ⟨s, p, d⟩ | ⟨p, d⟩ | ⟨p, d⟩ | ⟨s, p, d⟩ <;> revert p d <;> (try revert s) <;> decide +kernel

/-- The credit of a copy. -/
def cr (t : Xf) : ℕ := (dstM 0 t).view.dmaCredit

theorem dst_cr (c : Dev nD) (t : Xf) : (dstM c t).view.dmaCredit = cr t := by
  rcases t with ⟨s, p, d⟩ | ⟨p, d⟩ | ⟨p, d⟩ | ⟨s, p, d⟩ <;> cases d <;> rfl
theorem src_cr (c : Dev nD) (t : Xf) : (srcM c t).view.dmaCredit = cr t := by
  rcases t with ⟨⟨s, h⟩, p, d⟩ | ⟨p, d⟩ | ⟨p, d⟩ | ⟨s, p, d⟩
  · cases s <;> cases d <;> rfl
  all_goals cases d <;> rfl
theorem cr_pos (t : Xf) : 0 < cr t := by
  unfold cr
  rcases t with ⟨s, p, d⟩ | ⟨p, d⟩ | ⟨p, d⟩ | ⟨s, p, d⟩ <;> exact View.dmaCredit_pos _ (by dsimp only [shp]; decide)

/-! ## The order of the copies -/

/-- A copy's place in the order of the sends, which is also the order of the receives; -/
def ord : Xf → ℕ
  | .rs s p d => 4 * s.val + 2 * p.val + d.toNat
  | .xx p d => 60 + 2 * p.val + d.toNat
  | .gg p d => 68 + 2 * p.val + d.toNat
  | .ag s p d => 76 + 4 * s.val + 2 * p.val + d.toNat
/-- and in the order of the waits for the sends. -/
def dord : Xf → ℕ
  | .rs s p d => 4 * s.val + 2 * d.toNat + p.val
  | .xx p d => 60 + 4 * d.toNat + p.val
  | .gg p d => 68 + 4 * d.toNat + p.val
  | .ag s p d => 76 + 4 * s.val + 2 * d.toNat + p.val

theorem ord_lt (t : Xf) : ord t < 136 := by revert t; decide +kernel
theorem dord_lt (t : Xf) : dord t < 136 := by revert t; decide +kernel

/-- The copies in the order of the sends, -/
def ordInv (n : ℕ) : Xf :=
  if n < 60 then .rs ⟨n / 4 % 15, Nat.mod_lt _ (by decide)⟩ ⟨n / 2 % 2, Nat.mod_lt _ (by decide)⟩ (decide (n % 2 = 1))
  else if n < 68 then .xx ⟨(n - 60) / 2 % 4, Nat.mod_lt _ (by decide)⟩ (decide (n % 2 = 1))
  else if n < 76 then .gg ⟨(n - 68) / 2 % 4, Nat.mod_lt _ (by decide)⟩ (decide (n % 2 = 1))
  else .ag ⟨(n - 76) / 4 % 15, Nat.mod_lt _ (by decide)⟩ ⟨n / 2 % 2, Nat.mod_lt _ (by decide)⟩ (decide (n % 2 = 1))
/-- and in the order of the waits for them. -/
def dordInv (n : ℕ) : Xf :=
  if n < 60 then .rs ⟨n / 4 % 15, Nat.mod_lt _ (by decide)⟩ ⟨n % 2, Nat.mod_lt _ (by decide)⟩ (decide (n / 2 % 2 = 1))
  else if n < 68 then .xx ⟨(n - 60) % 4, Nat.mod_lt _ (by decide)⟩ (decide ((n - 60) / 4 = 1))
  else if n < 76 then .gg ⟨(n - 68) % 4, Nat.mod_lt _ (by decide)⟩ (decide ((n - 68) / 4 = 1))
  else .ag ⟨(n - 76) / 4 % 15, Nat.mod_lt _ (by decide)⟩ ⟨n % 2, Nat.mod_lt _ (by decide)⟩ (decide (n / 2 % 2 = 1))

theorem ordInv_ord (t : Xf) : ordInv (ord t) = t := by revert t; decide +kernel
theorem dordInv_dord (t : Xf) : dordInv (dord t) = t := by revert t; decide +kernel
theorem ord_inj : Function.Injective ord := Function.LeftInverse.injective ordInv_ord
theorem dord_inj : Function.Injective dord := Function.LeftInverse.injective dordInv_dord

end Cert.Ring
end
-- ==== Proof.Proto.lean ====
/-
# The protocol

A device has one barrier semaphore and, for each remote copy `t`, the semaphore its sender waits on and the one its
receiver waits on.

* Barrier of device `e`: three units, one from each of `right e`, `left e` and `partner e` (duties `0`, `1`, `2`). The
  signal of a neighbour hands `e` the places in that neighbour's memory its copies to it land in: `right e` those of the
  right ring, `left e` those of the left ring, `partner e` those of the exchange. `e` waits for all three before it sends.
* Receive semaphore of copy `t` on device `c`: raised once, by the copy `t` of device `frm c t`, by the copy's credit;
  hands `c` the landed region holding what was sent (`got c t`).
* Send semaphore of copy `t` on device `c`: raised once, by `c`'s own copy; hands the source region back (`hav c t`).

What every copy carries is a function of the memory at launch (`sent`): partial sums on the two rings, the complete sum's
rows to the partner, finished rows back, and finished chunks around.

Order: the copies are sent, and awaited, in the order `ord`; a device awaiting copy `t` has sent all copies before `t`, so
what it still owes lies above `t` (levels: barrier `1`, receive semaphore of `t` at `2 + ord t`).
-/
module

public import proofs.«01_k».proof.Proof.Mesh

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) and the protocol's (three duties) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

variable (m : (ℓ : Loc nD τ sig) → Buf (Elt F) ℓ)

/-! ## Contents -/

/-- A device's columns of `x`, -/
def xstg (c : Dev nD) : Vec F S2048x64 .f32 := (win0_0.blk (0 : Fin 1)).view.read (Elt F) (m ((c : Thread nD τ).loc main_arg0))
/-- and its rows of `w`. -/
def wstg (c : Dev nD) : Vec F S64x2048 .f32 := (win0_1.blk (0 : Fin 1)).view.read (Elt F) (m ((c : Thread nD τ).loc main_arg1))

/-- Half the columns of a device's rows of `w`. -/
def wcol (c : Dev nD) : Bool → Vec F S64x1024 .f32
  | false => wM.view.readAt (Elt F) w0Rect.toLoadRect (wstg m c)
  | true => wM.view.readAt (Elt F) w1Rect.toLoadRect (wstg m c)
/-- The rows of `x` a device multiplies before step `s`. -/
def xrow (c : Dev nD) (s : Fin 15) : Bool → Vec F S128x64 .f32
  | false => xM.view.readAt (Elt F) (x2Rect c s).toLoadRect (xstg m c)
  | true => xM.view.readAt (Elt F) (x3Rect c s).toLoadRect (xstg m c)
/-- The first partial product of a direction, -/
def part0 (c : Dev nD) (d : Bool) : FVec F S128x1024 .f32 :=
  k0_pay1 (xM.view.readAt (Elt F) (x1Rect c).toLoadRect (xstg m c)) (wcol m c d)
/-- and the one added at step `s`. -/
def part (c : Dev nD) (s : Fin 15) (d : Bool) : FVec F S128x1024 .f32 := k0_pay3 (xrow m c s d) (wcol m c d)

theorem sl_half (p : Fin 2) : S128x1024.Slices ![64 * p.val, 0] S64x1024 := by revert p; decide
theorem sl_row (p : Fin 4) : S64x1024.Slices ![16 * p.val, 0] S16x1024 := by revert p; decide
/-- Half `p` of 128 rows; -/
def hlf (p : Fin 2) (X : FVec F S128x1024 .f32) : FVec F S64x1024 .f32 := extractStridedSlice S64x1024 ![64 * p.val, 0] X (sl_half p)
/-- quarter `p` of 64 rows. -/
def row4 (p : Fin 4) (X : FVec F S64x1024 .f32) : FVec F S16x1024 .f32 := extractStridedSlice S16x1024 ![16 * p.val, 0] X (sl_row p)

/-- What step `s` of the reduce-scatter sends: the sum so far of half `p`. -/
def rsv : (s : ℕ) → s ≤ 15 → Dev nD → Fin 2 → Bool → FVec F S64x1024 .f32
  | 0, _, c, p, d => hlf p (part0 m c d)
  | s + 1, h, c, p, d => addf (rsv s (Nat.le_of_succ_le h) (prv c d) p d) (hlf p (part m c ⟨s, h⟩ d))

/-- The ring's complete sum of half `p`. -/
def tot (c : Dev nD) (p : Fin 2) (d : Bool) : FVec F S64x1024 .f32 := rsv m 15 le_rfl c p d

/-- Finished rows `p` of the half of its chunk a device finishes. -/
def fin (c : Dev nD) (p : Fin 4) (d : Bool) : FVec F S16x1024 .f32 :=
  k0_pay105 (shapeCast S1x16x1024 (row4 p (tot m c (half c) d)) rfl) (row4 p (tot m (partner c) (half c) d))

/-- The device that finishes half `h` of chunk `k`. -/
def devAt (k : Fin 16) (h : Fin 2) (d : Bool) : Dev nD :=
  ((List.finRange 32).find? fun e => decide (own e d = k ∧ half e = h)).getD 0

theorem devAt_own (c : Dev nD) (d : Bool) : devAt (own c d) (half c) d = c := by
  have h : ∀ (c : Dev nD) (d : Bool), devAt (own c d) (half c) d = c := by decide +kernel
  exact h c d
theorem own_devAt (k : Fin 16) (h : Fin 2) (d : Bool) : own (devAt k h d) d = k ∧ half (devAt k h d) = h := by
  have h' : ∀ (k : Fin 16) (h : Fin 2) (d : Bool), own (devAt k h d) d = k ∧ half (devAt k h d) = h := by decide +kernel
  exact h' k h d

/-- The coordinates of an element of the result: chunk, half, quarter, direction, and its place in the sixteen rows. -/
def chunkOf (i : S2048x2048.Idx) : Fin 16 := ⟨(i 0).val / 128, by have : (i 0).val < 2048 := (i 0).isLt; omega⟩
def halfOf (i : S2048x2048.Idx) : Fin 2 := ⟨(i 0).val / 64 % 2, Nat.mod_lt _ (by decide)⟩
def rowOf (i : S2048x2048.Idx) : Fin 4 := ⟨(i 0).val / 16 % 4, Nat.mod_lt _ (by decide)⟩
def dirOf (i : S2048x2048.Idx) : Bool := decide (1024 ≤ (i 1).val)
def inOf (i : S2048x2048.Idx) : S16x1024.Idx := fun a => ⟨(![(i 0).val % 16, (i 1).val % 1024] : Fin 2 → ℕ) a, by
  fin_cases a
  · exact Nat.mod_lt _ (by decide)
  · exact Nat.mod_lt _ (by decide)⟩

/-- The kernel's result: the same on every device. -/
def G : Vec F S2048x2048 .f32 := fun i => fin m (devAt (chunkOf i) (halfOf i) (dirOf i)) (rowOf i) (dirOf i) (inOf i)

/-- What copy `t` of device `c` carries. -/
def sent (c : Dev nD) : (t : Xf) → Vec F (shp t) .f32
  | .rs s p d => rsv m s.val s.isLt.le c p d
  | .xx p d => row4 p (tot m c (1 - half c) d)
  | .gg p d => (fSl c p d).view.read (Elt F) (G m)
  | .ag s p d => (aSl c s p d).view.read (Elt F) (G m)

/-- The share of its source a copy holds. -/
def shr : Xf → PosShare TreeShare
  | .rs _ _ _ => fullShare
  | .xx _ _ => fullShare
  | .gg _ _ => fullShare.left
  | .ag _ _ _ => fullShare.right

/-- Device `c` holds a memref's elements at a share, reading `X`. -/
abbrev holds (c : Dev nD) {sh : Shape} (M : Memref sig .tc .vmem sh .f32) (q : PosShare TreeShare) (X : Vec F sh .f32) : sProp 𝕄 :=
  owns (Ix := Unit) (Name := ℕ) (U := UU) (Lvl := ℕ) (c : Thread nD τ) M q X
/-- The same, whatever it reads. -/
abbrev some' (c : Dev nD) {sh : Shape} (M : Memref sig .tc .vmem sh .f32) : sProp 𝕄 := iprop(∃ X : Vec F sh .f32, holds c M fullShare X)

/-- Copy `t`'s source on `c`, ready to be sent or sent; -/
def hav (c : Dev nD) (t : Xf) : sProp 𝕄 := holds c (srcM c t) (shr t) (sent m c t)
/-- copy `t` arrived at `c`; -/
def got (c : Dev nD) (t : Xf) : sProp 𝕄 := holds c (dstM (frm c t) t) fullShare (sent m (frm c t) t)
/-- the place copy `t` of `c` lands in, at its target; -/
def land (c : Dev nD) (t : Xf) : sProp 𝕄 := some' (F := F) (tgt c t) (dstM c t)
/-- the place copy `t` to `c` lands in. -/
def mine (c : Dev nD) (t : Xf) : sProp 𝕄 := some' (F := F) c (dstM (frm c t) t)

omit [FloatOps F] in
theorem land_frm (c : Dev nD) (t : Xf) : (land (frm c t) t : sProp 𝕄) = mine c t := by unfold land mine; rw [tgt_frm]
omit [FloatOps F] in
theorem mine_tgt (c : Dev nD) (t : Xf) : (mine (tgt c t) t : sProp 𝕄) = land c t := by unfold land mine; rw [frm_tgt]

instance hav_storable (c : Dev nD) (t : Xf) : BI.Storable (upEmb : UEmb _ 𝕄) (hav m c t) := by unfold hav; infer_instance
instance got_storable (c : Dev nD) (t : Xf) : BI.Storable (upEmb : UEmb _ 𝕄) (got m c t) := by unfold got; infer_instance
omit [FloatOps F] in
instance land_storable (c : Dev nD) (t : Xf) : BI.Storable (upEmb : UEmb _ 𝕄) (land (F := F) c t) := by unfold land; infer_instance

/-! ## The cells and the schedule -/

/-- Which of its sender's barrier duties a copy's landing place belongs to. -/
def kind : Xf → Fin 3
  | .rs _ _ false => 0
  | .rs _ _ true => 1
  | .xx _ _ => 2
  | .gg _ _ => 2
  | .ag _ _ false => 0
  | .ag _ _ true => 1

/-- A device's semaphores: its barrier, the send and the receive semaphore of each copy. -/
abbrev CK : Type := Option (Bool × Xf)
def csem : CK → SemLoc sig
  | none => .reg barS
  | some (false, t) => .dma (ssem t)
  | some (true, t) => .dma (rsem t)
abbrev kcell (ck : Dev nD × CK) : GSem nD τ sig := ((ck.1 : Thread nD τ), csem ck.2)
abbrev bcell (c : Dev nD) : GSem nD τ sig := kcell (c, none)
abbrev scell (c : Dev nD) (t : Xf) : GSem nD τ sig := kcell (c, some (false, t))
abbrev rcell (c : Dev nD) (t : Xf) : GSem nD τ sig := kcell (c, some (true, t))

/-- What a semaphore is for. -/
def role : SemLoc sig → Option CK
  | .reg b => if b = barS then some none else none
  | .dma s => (dec s.val).map some

theorem role_csem (k : CK) : role (csem k) = some k := by
  rcases k with _ | ⟨_ | _, t⟩
  · show (if barS = barS then (some none : Option CK) else none) = some none; rw [if_pos rfl]
  · show (dec (ssem t).val).map some = _; rw [dec_ssem]; rfl
  · show (dec (rsem t).val).map some = _; rw [dec_rsem]; rfl
theorem csem_inj : Function.Injective csem := fun a b h => Option.some.inj (by rw [← role_csem, ← role_csem, h])
theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]

/-- What the neighbour's signal of duty `k` hands `e`. -/
def barPay (e : Dev nD) (k : Fin 3) : sProp 𝕄 := bigSep (Finset.univ.filter fun t => kind t = k) (land (F := F) e)

/-- The schedule of the cells, by what the cell is for: one round. -/
def rd : Rounds.Schedule (GSem nD τ sig) (Fin 3) 𝕄 where
  duties g r := if r = 0 ∧ g.1.2 = .tc then (match role g.2 with | some none => Finset.univ | some (some _) => {0} | none => ∅) else ∅
  unitless _ := False
  amount g _ _ := match role g.2 with | some (some (_, t)) => cr t | _ => 1
  payload g _ k := match role g.2 with
    | some none => barPay g.1.1 k
    | some (some (false, t)) => hav m g.1.1 t
    | some (some (true, t)) => got m g.1.1 t
    | none => iprop(emp)
  amount_pos g _ _ _ := by
    split
    · exact cr_pos _
    · exact Nat.one_pos

instance rd_storable (g : GSem nD τ sig) (r : ℕ) (k : Fin 3) : BI.Storable (upEmb : UEmb _ 𝕄) ((rd (F := F) m).payload g r k) := by
  dsimp only [rd]
  unfold barPay
  split <;> infer_instance

theorem duties_bar (c : Dev nD) : (rd (F := F) m).duties (bcell c) 0 = Finset.univ := by
  dsimp only [rd]; rw [if_pos ⟨rfl, rfl⟩, role_csem]
theorem duties_xf (c : Dev nD) (x : Bool × Xf) : (rd (F := F) m).duties (kcell (c, some x)) 0 = {0} := by
  dsimp only [rd]; rw [if_pos ⟨rfl, rfl⟩, role_csem]
theorem duties_later (g : GSem nD τ sig) : ∀ r, 1 ≤ r → (rd (F := F) m).duties g r = ∅ :=
  fun r hr => by dsimp only [rd]; rw [if_neg fun h => by omega]
theorem amount_bar (c : Dev nD) (k : Fin 3) : (rd (F := F) m).amount (bcell c) 0 k = 1 := by dsimp only [rd]; rw [role_csem]
theorem amount_xf (c : Dev nD) (b : Bool) (t : Xf) (k : Fin 3) : (rd (F := F) m).amount (kcell (c, some (b, t))) 0 k = cr t := by
  dsimp only [rd]; rw [role_csem]
theorem payload_bar (c : Dev nD) (k : Fin 3) : (rd (F := F) m).payload (bcell c) 0 k = barPay c k := by dsimp only [rd]; rw [role_csem]
theorem payload_s (c : Dev nD) (t : Xf) (k : Fin 3) : (rd (F := F) m).payload (scell c t) 0 k = hav m c t := by dsimp only [rd]; rw [role_csem]
theorem payload_r (c : Dev nD) (t : Xf) (k : Fin 3) : (rd (F := F) m).payload (rcell c t) 0 k = got m c t := by dsimp only [rd]; rw [role_csem]
theorem expect_bar (c : Dev nD) : (rd (F := F) m).expect (bcell c) 0 = 3 := by
  unfold Schedule.expect Schedule.amountOf
  rw [duties_bar, Finset.sum_congr rfl fun d _ => amount_bar m c d, Finset.sum_const, Finset.card_univ, Fintype.card_fin, smul_eq_mul]
theorem expect_xf (c : Dev nD) (b : Bool) (t : Xf) : (rd (F := F) m).expect (kcell (c, some (b, t))) 0 = cr t := by
  unfold Schedule.expect Schedule.amountOf; rw [duties_xf, Finset.sum_singleton, amount_xf]
theorem rest_bar (c : Dev nD) :
    bigSep ((rd (F := F) m).duties (bcell c) 0 \ ∅) (fun k => (rd (F := F) m).payload (bcell c) 0 k) = bigSep Finset.univ (barPay (F := F) c) := by
  rw [Finset.sdiff_empty, duties_bar]; exact bigSep_congr fun k _ => payload_bar m c k
theorem rest_s (c : Dev nD) (t : Xf) :
    bigSep ((rd (F := F) m).duties (scell c t) 0 \ ∅) (fun k => (rd (F := F) m).payload (scell c t) 0 k) = hav m c t := by
  rw [Finset.sdiff_empty, duties_xf, bigSep_singleton, payload_s]
theorem rest_r (c : Dev nD) (t : Xf) :
    bigSep ((rd (F := F) m).duties (rcell c t) 0 \ ∅) (fun k => (rd (F := F) m).payload (rcell c t) 0 k) = got m c t := by
  rw [Finset.sdiff_empty, duties_xf, bigSep_singleton, payload_r]

/-! ## What a device owes, and the levels -/

/-- The copies from place `n` on in the order of the sends. -/
def from' (n : ℕ) : Finset Xf := Finset.univ.filter fun t => n ≤ ord t
/-- Device `c` has sent the copies before place `n`: it owes the receive semaphores of the rest. -/
def O (n : ℕ) (c : Dev nD) : CellTallies nD τ sig Unit := ∑ t ∈ from' n, tallyAt (rcell (tgt c t) t) () (cr t)
/-- At launch it owes its three neighbours' barriers a unit each as well. -/
def O₀ (c : Dev nD) : CellTallies nD τ sig Unit :=
  ((O 0 c + tallyAt (bcell (partner c)) () 1) + tallyAt (bcell (right c)) () 1) + tallyAt (bcell (left c)) () 1

theorem from_pop (t : Xf) : from' (ord t) = insert t (from' (ord t + 1)) := by
  ext u
  simp only [from', Finset.mem_filter, Finset.mem_univ, true_and, Finset.mem_insert]
  constructor
  · intro h
    by_cases hu : u = t
    · exact Or.inl hu
    · exact Or.inr (lt_of_le_of_ne h fun e => hu (ord_inj e).symm)
  · rintro (rfl | h)
    · exact le_rfl
    · omega
theorem not_mem_from (t : Xf) : t ∉ from' (ord t + 1) := by simp [from']
theorem from_136 : from' 136 = ∅ := Finset.filter_eq_empty_iff.mpr fun t _ => by have := ord_lt t; omega
theorem from_0 : from' 0 = Finset.univ := Finset.filter_true_of_mem fun t _ => Nat.zero_le _

theorem O_pop (c : Dev nD) (t : Xf) : O (ord t) c = O (ord t + 1) c + tallyAt (rcell (tgt c t) t) () (cr t) := by
  unfold O; rw [from_pop, Finset.sum_insert (not_mem_from t), add_comm]
theorem O_136 (c : Dev nD) : O 136 c = 0 := by unfold O; rw [from_136, Finset.sum_empty]

def L (g : GSem nD τ sig) : Finset Unit := if g.1.2 = .tc then {()} else ∅
def lv (g : GSem nD τ sig) (_ : Unit) : ℕ := match role g.2 with
  | some none => 1
  | some (some (true, t)) => 2 + ord t
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (bcell c) u = 1 := by unfold lv; rw [role_csem]
theorem lv_r (c : Dev nD) (t : Xf) (u : Unit) : lv (rcell c t) u = 2 + ord t := by unfold lv; rw [role_csem]

theorem O_apply (n : ℕ) (c : Dev nD) (g : GSem nD τ sig) (u : Unit) :
    O n c g u = ∑ t ∈ from' n, if g = rcell (tgt c t) t then cr t else 0 := by
  unfold O
  rw [Finset.sum_apply, Finsupp.finset_sum_apply]
  refine Finset.sum_congr rfl fun t _ => ?_
  rw [tallyAt_apply]
  exact if_congr ⟨fun h => h.1, fun h => ⟨h, rfl⟩⟩ rfl rfl

theorem O_pos {n : ℕ} {c : Dev nD} {g : GSem nD τ sig} {u : Unit} (h : 0 < O n c g u) : ∃ t, n ≤ ord t ∧ g = rcell (tgt c t) t := by
  rw [O_apply] at h
  obtain ⟨t, ht, h0⟩ := Finset.exists_ne_zero_of_sum_ne_zero h.ne'
  refine ⟨t, (Finset.mem_filter.mp ht).2, ?_⟩
  by_contra hg
  exact h0 (if_neg hg)
theorem O₀_pos {c : Dev nD} {g : GSem nD τ sig} {u : Unit} (h : 0 < O₀ c g u) :
    (∃ t, g = rcell (tgt c t) t) ∨ ∃ e, g = bcell e := by
  unfold O₀ at h
  rw [Pi.add_apply, Finsupp.add_apply, Pi.add_apply, Finsupp.add_apply, Pi.add_apply, Finsupp.add_apply, tallyAt_apply, tallyAt_apply, tallyAt_apply] at h
  by_contra hn
  rw [not_or] at hn
  rw [if_neg (fun h' => hn.2 ⟨_, h'.1⟩), if_neg (fun h' => hn.2 ⟨_, h'.1⟩), if_neg (fun h' => hn.2 ⟨_, h'.1⟩)] at h
  obtain ⟨t, _, ht⟩ := O_pos (Nat.pos_of_ne_zero fun h0 => by rw [h0] at h; exact Nat.lt_irrefl 0 h)
  exact hn.1 ⟨t, ht⟩

omit [FloatOps F] in
/-- A staging wait is below everything owed; -/
theorem mayWait_stage (c : Dev nD) (q : DmaSem sig) (hq : lv ((c : Thread nD τ), .dma q) () = 0) (O' : CellTallies nD τ sig Unit) (hO : O' = O₀ c ∨ O' = 0) :
    (levAts L lv : sProp 𝕄) ⊢ MayWait (c : Thread nD τ) (.dma q) () O' := by
  rcases hO with rfl | rfl
  · refine MayOwe.of_cut (L := L) (lev := lv) 0 (fun p hp => by rw [Finset.mem_singleton.mp hp, L_tc]; exact Finset.mem_singleton_self _)
      (fun g u hg => by rcases O₀_pos hg with ⟨t, rfl⟩ | ⟨e, rfl⟩ <;> exact Finset.mem_singleton_self _)
      (fun p hp => by rw [Finset.mem_singleton.mp hp, hq])
      (fun g u hg => by
        rcases O₀_pos hg with ⟨t, rfl⟩ | ⟨e, rfl⟩
        · rw [lv_r]; omega
        · rw [lv_bar]; omega)
  · rw [MayWait_zero]; iintro -; iempintro
omit [FloatOps F] in
/-- the barrier is below the copies; -/
theorem mayWait_bar (c : Dev nD) : (levAts L lv : sProp 𝕄) ⊢ MayWait (c : Thread nD τ) (.reg barS) () (O 0 c) :=
  MayOwe.of_cut (L := L) (lev := lv) 1 (fun p hp => by rw [Finset.mem_singleton.mp hp, L_tc]; exact Finset.mem_singleton_self _)
    (fun g u hg => by obtain ⟨t, _, rfl⟩ := O_pos hg; exact Finset.mem_singleton_self _)
    (fun p hp => by rw [Finset.mem_singleton.mp hp]; exact (lv_bar c ()).le)
    (fun g u hg => by obtain ⟨t, _, rfl⟩ := O_pos hg; rw [lv_r]; omega)
omit [FloatOps F] in
/-- and a copy is below the later ones. -/
theorem mayWait_r (c : Dev nD) (t : Xf) (n : ℕ) (h : ord t < n) : (levAts L lv : sProp 𝕄) ⊢ MayWait (c : Thread nD τ) (.dma (rsem t)) () (O n c) :=
  MayOwe.of_cut (L := L) (lev := lv) (2 + ord t) (fun p hp => by rw [Finset.mem_singleton.mp hp, L_tc]; exact Finset.mem_singleton_self _)
    (fun g u hg => by obtain ⟨t', _, rfl⟩ := O_pos hg; exact Finset.mem_singleton_self _)
    (fun p hp => by rw [Finset.mem_singleton.mp hp]; exact (lv_r c t ()).le)
    (fun g u hg => by obtain ⟨t', h', rfl⟩ := O_pos hg; rw [lv_r]; omega)

end Cert.Ring
end
-- ==== Proof.Engine.lean ====
/-
# Sending, receiving and collecting, one rule each

`Eng c n k` is what device `c` holds of the protocol when it has sent the first `n` copies and received the first `k`;
`Drn c n` when it has sent and received all and has waited for the first `n` of its sends. One rule for the next send, one
for the next receive, one for the next wait for a send, and one for a loop.
-/
module

public import proofs.«01_k».proof.Proof.Proto

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

omit [FloatOps F] in
/-- A big conjunction over one more index. -/
theorem bs_insert {I : Type} [DecidableEq I] {S : Finset I} {a : I} (h : a ∉ S) (Φ : I → sProp 𝕄) :
    bigSep (insert a S) Φ = iprop(Φ a ∗ bigSep S Φ) := bigSep_insert h
omit [FloatOps F] in
theorem bs_elim {I : Type} [DecidableEq I] {S : Finset I} {a : I} (h : a ∈ S) (Φ : I → sProp 𝕄) : bigSep S Φ ⊢ Φ a := bigSep_elim h

omit [FloatOps F] in
theorem bs_mono {I : Type} {S : Finset I} {Φ Ψ : I → sProp 𝕄} (h : ∀ i ∈ S, Φ i ⊢ Ψ i) : bigSep S Φ ⊢ bigSep S Ψ := bigSep_mono h
omit [FloatOps F] in
theorem bs_sep {I : Type} (S : Finset I) (Φ Ψ : I → sProp 𝕄) : bigSep S (fun i => iprop(Φ i ∗ Ψ i)) = iprop(bigSep S Φ ∗ bigSep S Ψ) := bigSep_sep' S Φ Ψ

/-! ## What everybody knows -/

/-- Every cell's invariant, and that every cell has reached round 0. -/
def records : sProp 𝕄 :=
  iprop((bigSep Finset.univ fun ck : Dev nD × CK => cellInv ER (rd m) (K ck) (kcell ck))
    ∗ bigSep Finset.univ fun ck : Dev nD × CK => reached ER (kcell ck) 0)

instance records_persistent : BI.Persistent (records m K) := by unfold records; infer_instance

theorem records_inv (ck : Dev nD × CK) : records m K ⊢ (cellInv ER (rd m) (K ck) (kcell ck) : sProp 𝕄) := by
  unfold records; iintro ⟨#HI, #HR⟩; iapply (bs_elim (Finset.mem_univ ck) fun ck => cellInv ER (rd m) (K ck) (kcell ck)); iexact HI
theorem records_reached (ck : Dev nD × CK) : records m K ⊢ (reached ER (kcell ck) 0 : sProp 𝕄) := by
  unfold records; iintro ⟨#HI, #HR⟩; iapply (bs_elim (Finset.mem_univ ck) fun ck => reached ER (kcell ck) 0); iexact HR

/-- The program logic's assertion on device `c`. -/
abbrev WP (c : Dev nD) (k : PG F) (Q : PUnit → sProp 𝕄) : sProp 𝕄 :=
  wp frame (wpE (defs₀ (F := F)) 𝒱₀ (c : Thread nD τ) none) Set.univ k Q

/-! ## Loops -/

omit [FloatOps F] in
theorem iter_cons {ι : Type} (a : ι) (l : List ι) (f : ι → PG F → PG F) (k : PG F) : iter (a :: l) f k = f a (iter l f k) := rfl

/-- A loop over `0, …, n - 1` with invariant `I`. -/
theorem wp_iter (c : Dev nD) {n : ℕ} (I : ℕ → sProp 𝕄) (f : Fin n → PG F → PG F) (Q : PUnit → sProp 𝕄)
    (h : ∀ (i : Fin n) (k : PG F), I i.val ⊢ iprop((I (i.val + 1) -∗ WP c k Q) -∗ WP c (f i k) Q)) (l : List (Fin n)) (hl : l = List.finRange n)
    (k : PG F) : I 0 ⊢ iprop((I n -∗ WP c k Q) -∗ WP c (iter l f k) Q) := by
  subst hl
  have key : ∀ (j : ℕ) (hj : j ≤ n), I j ⊢ iprop((I n -∗ WP c k Q) -∗ WP c (iter ((List.finRange n).drop j) f k) Q) := by
    intro j hj
    induction hj using Nat.decreasingInduction with
    | self =>
      rw [List.drop_of_length_le (by rw [List.length_finRange])]
      iintro HI Hk
      iapply Hk; iexact HI
    | of_succ j hj ih =>
      have hlen : j < (List.finRange n).length := by rw [List.length_finRange]; exact hj
      rw [List.drop_eq_getElem_cons hlen, List.getElem_finRange]
      show _ ⊢ iprop(_ -∗ WP c (f _ (iter ((List.finRange n).drop (j + 1)) f k)) Q)
      iintro HI Hk
      iapply (show I j ⊢ _ from h (Fin.cast (List.length_finRange) ⟨j, hlen⟩) _) $$ HI
      iintro HI
      iapply (show I ((Fin.cast (List.length_finRange) ⟨j, hlen⟩ : Fin n).val + 1) ⊢ _ from ih) $$ HI
      iexact Hk
  exact key 0 (Nat.zero_le n)

/-! ## Sending and receiving -/

/-- The copies before place `n`. -/
def upto (n : ℕ) : Finset Xf := Finset.univ.filter fun t => ord t < n
theorem upto_push (t : Xf) : upto (ord t + 1) = insert t (upto (ord t)) := by
  ext u
  simp only [upto, Finset.mem_filter, Finset.mem_univ, true_and, Finset.mem_insert]
  constructor
  · intro h
    by_cases hu : u = t
    · exact Or.inl hu
    · exact Or.inr (lt_of_le_of_ne (Nat.le_of_lt_succ h) fun e => hu (ord_inj e))
  · rintro (rfl | h)
    · exact Nat.lt_succ_self _
    · omega
theorem not_mem_upto (t : Xf) : t ∉ upto (ord t) := by simp [upto]
theorem upto_136 : upto 136 = Finset.univ := Finset.filter_true_of_mem fun t _ => ord_lt t
theorem upto_0 : upto 0 = ∅ := Finset.filter_eq_empty_iff.mpr fun t _ => by omega

theorem rest_r' (c : Dev nD) (t : Xf) :
    (bigSep ((rd (F := F) m).duties ((c : Thread nD τ), .dma (rsem t)) 0 \ ∅) fun k => (rd (F := F) m).payload ((c : Thread nD τ), .dma (rsem t)) 0 k)
      ⊢ got m c t := Entails.of_eq (rest_r m c t)
theorem rest_s' (c : Dev nD) (t : Xf) :
    (bigSep ((rd (F := F) m).duties ((c : Thread nD τ), .dma (ssem t)) 0 \ ∅) fun k => (rd (F := F) m).payload ((c : Thread nD τ), .dma (ssem t)) 0 k)
      ⊢ hav m c t := Entails.of_eq (rest_s m c t)

/-- What sending copy `t` takes besides its source, -/
def sres (c : Dev nD) (t : Xf) : sProp 𝕄 :=
  iprop(dutyTok ER (scell c t) 0 0 ∗ dutyTok ER (rcell (tgt c t) t) 0 0 ∗ land (F := F) c t)
/-- and receiving it. -/
def rres (c : Dev nD) (t : Xf) : sProp 𝕄 := iprop(atPos ER (rcell c t) 0 ∅ 0 ∗ cred (tallyAt (rcell c t) () (cr t)))

/-- Device `c` has sent the first `n` copies and received the first `k`. -/
def Eng (c : Dev nD) (n k : ℕ) : sProp 𝕄 :=
  iprop(records m K ∗ levAts L lv ∗ (∃ W, owes (c : Thread nD τ) (O n c) W)
    ∗ bigSep (from' n) (sres (F := F) c) ∗ bigSep (upto n) (fun t => cred (tallyAt (scell c t) () (cr t)))
    ∗ bigSep (from' k) (rres (F := F) c) ∗ bigSep (upto k) (fun t => semVal (rcell c t) 0))

/-- The next send. -/
theorem wp_sendOp (c : Dev nD) (t : Xf) (k : ℕ) (rest : PG F) (Q : PUnit → sProp 𝕄) :
    iprop(Eng m K c (ord t) k ∗ hav m c t) ⊢ iprop((Eng m K c (ord t + 1) k -∗ WP c rest Q) -∗ WP c (sendOp c t rest) Q) := by
  unfold Eng sendOp
  rw [from_pop, bs_insert (not_mem_from t), upto_push, bs_insert (not_mem_upto t)]
  unfold sres hav land some' holds owns
  iintro ⟨⟨#HR, #Hlev, ⟨%W, HO⟩, ⟨⟨HtS, HtV, ⟨%X, %fd, %hfd, Hd⟩⟩, Hsr⟩, Hcs, Hrr, Hz⟩, ⟨%fs, %hfs, Hs⟩⟩ Hk
  iapply (Rounds.wp_send_pointsTo 𝒱₀ ER (rd m) (c : Thread nD τ) none (κ₁ := K (c, some (false, t))) (κ₂ := K (tgt c t, some (true, t)))
    (r₁ := 0) (r₂ := 0) (d₁ := 0) (d₂ := 0) (fs := fs) (fd := fd)
    (by rw [duties_xf]; exact Finset.mem_singleton_self _) (by rw [duties_xf]; exact Finset.mem_singleton_self _)
    () () (cr t) (show (dstM c t).view.amount (.dma (rsem t)) = cr t from dst_cr c t) (amount_xf m c false t 0) (amount_xf m (tgt c t) true t 0) (O (ord t + 1) c) (O_pop c t) (W := W)
    (by
      rw [payload_s]; unfold hav holds owns
      iintro H; iexists fs
      isplitr; · (ipureintro; exact hfs)
      iexact H)
    (by
      rw [payload_r]; unfold got holds owns; rw [frm_tgt]
      iintro H; iexists ((dstM c t).view.write (Elt F) fd ((srcM c t).view.read (Elt F) fs) Finset.univ)
      isplitr; · (ipureintro; exact (View.read_write_univ _ _).trans hfs)
      iexact H)) $$ [Hs Hd HO HtS HtV]
  · isplitr; · iapply (records_inv m K (c, some (false, t))); iexact HR
    isplitr; · iapply (records_inv m K (tgt c t, some (true, t))); iexact HR
    isplitl [Hs]; · iexact Hs
    isplitl [Hd]; · iexact Hd
    isplitl [HO]; · iexact HO
    isplitl [HtS]; · iexact HtS
    isplitr; · iapply (records_reached m K (c, some (false, t))); iexact HR
    isplitl [HtV]; · iexact HtV
    iapply (records_reached m K (tgt c t, some (true, t))); iexact HR
  iintro ⟨Hc, HO⟩
  iapply Hk
  isplitr; · iexact HR
  isplitr; · iexact Hlev
  isplitl [HO]; · iexists W; iexact HO
  isplitl [Hsr]; · iexact Hsr
  isplitl [Hc Hcs]
  · isplitl [Hc] <;> iassumption
  isplitl [Hrr] <;> iassumption

/-- The next receive, of a copy before the next to be sent. -/
theorem wp_recvOp (c : Dev nD) (t : Xf) (n : ℕ) (hn : ord t < n) (rest : PG F) (Q : PUnit → sProp 𝕄) :
    Eng m K c n (ord t) ⊢ iprop((iprop(Eng m K c n (ord t + 1) ∗ got m c t) -∗ WP c rest Q) -∗ WP c (recvOp c t rest) Q) := by
  unfold Eng recvOp
  rw [from_pop, bs_insert (not_mem_from t), upto_push, bs_insert (not_mem_upto t)]
  unfold rres
  iintro ⟨#HR, #Hlev, ⟨%W, HO⟩, Hsr, Hcs, ⟨⟨Hat, Hc⟩, Hrr⟩, Hz⟩ Hk
  iapply (Rounds.wp_wait_rest_token 𝒱₀ ER (rd m) (c : Thread nD τ) none (κ := K (c, some (true, t)))
      (wpE_waitDma2_eq 𝒱₀ (c : Thread nD τ) none Set.univ) (Set.mem_univ _) () (O := O n c) (W := W) (R := 0) (m := 0) (T := ∅)
      (by rw [Nat.zero_add]; exact (dst_cr c t).trans (expect_xf m c true t).symm)) $$ [Hc HO Hat]
  · isplitr; · iapply (records_inv m K (c, some (true, t))); iexact HR
    isplitl [Hc]; · rw [dst_cr]; iexact Hc
    isplitl [HO]; · iexact HO
    isplitr; · iapply (mayWait_r c t n hn); iexact Hlev
    iexact Hat
  iintro ⟨HO, Hat, -, Hpay⟩
  ihave Hp := (rest_r' m c t) $$ Hpay
  imod (Rounds.cell_close ER (rd m) (Set.mem_univ (K (c, some (true, t)))) (fun h => h) (R := 0 + 1) (duties_later m (rcell c t))) $$ [Hat] with Hz'
  · isplitr; · iapply (records_inv m K (c, some (true, t))); iexact HR
    iexact Hat
  iapply Hk
  isplitr [Hp]
  · isplitr; · iexact HR
    isplitr; · iexact Hlev
    isplitl [HO]; · iexists _; iexact HO
    isplitl [Hsr]; · iexact Hsr
    isplitl [Hcs]; · iexact Hcs
    isplitl [Hrr]; · iexact Hrr
    isplitl [Hz'] <;> iassumption
  iexact Hp

/-! ## Waiting for the sends -/

/-- The copies from place `n` on, and before it, in the order of these waits. -/
def dfrom (n : ℕ) : Finset Xf := Finset.univ.filter fun t => n ≤ dord t
def dupto (n : ℕ) : Finset Xf := Finset.univ.filter fun t => dord t < n
theorem dfrom_pop (t : Xf) : dfrom (dord t) = insert t (dfrom (dord t + 1)) := by
  ext u
  simp only [dfrom, Finset.mem_filter, Finset.mem_univ, true_and, Finset.mem_insert]
  constructor
  · intro h
    by_cases hu : u = t
    · exact Or.inl hu
    · exact Or.inr (lt_of_le_of_ne h fun e => hu (dord_inj e).symm)
  · rintro (rfl | h)
    · exact le_rfl
    · omega
theorem dupto_push (t : Xf) : dupto (dord t + 1) = insert t (dupto (dord t)) := by
  ext u
  simp only [dupto, Finset.mem_filter, Finset.mem_univ, true_and, Finset.mem_insert]
  constructor
  · intro h
    by_cases hu : u = t
    · exact Or.inl hu
    · exact Or.inr (lt_of_le_of_ne (Nat.le_of_lt_succ h) fun e => hu (dord_inj e))
  · rintro (rfl | h)
    · exact Nat.lt_succ_self _
    · omega
theorem not_mem_dfrom (t : Xf) : t ∉ dfrom (dord t + 1) := by simp [dfrom]
theorem not_mem_dupto (t : Xf) : t ∉ dupto (dord t) := by simp [dupto]
theorem dfrom_0 : dfrom 0 = Finset.univ := Finset.filter_true_of_mem fun t _ => Nat.zero_le _
theorem dupto_0 : dupto 0 = ∅ := Finset.filter_eq_empty_iff.mpr fun t _ => by omega
theorem dupto_136 : dupto 136 = Finset.univ := Finset.filter_true_of_mem fun t _ => dord_lt t

/-- Device `c` has sent and received everything and collected the first `n` of its sends. -/
def Drn (c : Dev nD) (n : ℕ) : sProp 𝕄 :=
  iprop(records m K ∗ (∃ W, owes (c : Thread nD τ) 0 W)
    ∗ bigSep (dfrom n) (fun t => iprop(atPos ER (scell c t) 0 ∅ 0 ∗ cred (tallyAt (scell c t) () (cr t))))
    ∗ bigSep (dupto n) (fun t => iprop(hav m c t ∗ semVal (scell c t) 0)))

/-- The next wait for a send. -/
theorem wp_doneOp (c : Dev nD) (t : Xf) (rest : PG F) (Q : PUnit → sProp 𝕄) :
    Drn m K c (dord t) ⊢ iprop((Drn m K c (dord t + 1) -∗ WP c rest Q) -∗ WP c (doneOp c t rest) Q) := by
  unfold Drn doneOp
  rw [dfrom_pop, bs_insert (not_mem_dfrom t), dupto_push, bs_insert (not_mem_dupto t)]
  iintro ⟨#HR, ⟨%W, HO⟩, ⟨⟨Hat, Hc⟩, Hf⟩, Hu⟩ Hk
  iapply (Rounds.wp_wait_rest_token 𝒱₀ ER (rd m) (c : Thread nD τ) none (κ := K (c, some (false, t)))
      (wpE_waitDma2_eq 𝒱₀ (c : Thread nD τ) none Set.univ) (Set.mem_univ _) () (O := 0) (W := W) (R := 0) (m := 0) (T := ∅)
      (by rw [Nat.zero_add]; exact (src_cr c t).trans (expect_xf m c false t).symm)) $$ [Hc HO Hat]
  · isplitr; · iapply (records_inv m K (c, some (false, t))); iexact HR
    isplitl [Hc]; · rw [src_cr]; iexact Hc
    isplitl [HO]; · iexact HO
    isplitr; · rw [MayWait_zero]; iempintro
    iexact Hat
  iintro ⟨HO, Hat, -, Hpay⟩
  ihave Hp := (rest_s' m c t) $$ Hpay
  imod (Rounds.cell_close ER (rd m) (Set.mem_univ (K (c, some (false, t)))) (fun h => h) (R := 0 + 1) (duties_later m (scell c t))) $$ [Hat] with Hz
  · isplitr; · iapply (records_inv m K (c, some (false, t))); iexact HR
    iexact Hat
  iapply Hk
  isplitr; · iexact HR
  isplitl [HO]; · iexists _; iexact HO
  isplitl [Hf]; · iexact Hf
  isplitr [Hu]
  · isplitl [Hp] <;> iassumption
  iexact Hu

end Cert.Ring
end
-- ==== Proof.Pieces.lean ====
/-
# Pieces of buffers

Holding a buffer, or a block of one, is holding its pieces: the two halves of the first partial products, the thirty half
slots of a ring buffer, the quarters of a half slot, the quarters of the buffer for the partner's rows, the sixty-four
blocks of the result and their quarters. And: holding a piece at full share is holding it twice at half shares.
-/
module

public import proofs.«01_k».proof.Proof.Engine

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

omit [FloatOps F] in
theorem eq_of {P Q : sProp 𝕄} (h₁ : P ⊢ Q) (h₂ : Q ⊢ P) : P = Q := BI.equiv_iff.mp ⟨h₁, h₂⟩

/-! ## Contents are determined by what a view reads -/

theorem cast_inj {α β : Type} (h : α = β) {a b : α} (e : _root_.cast h a = _root_.cast h b) : a = b := by subst h; exact e
omit [FloatOps F] in
theorem agree_of_read {sh : Shape} (v : View sig .tc .vmem sh .f32) {f g : v.ty.Contents (Elt F)}
    (h : v.read (Elt F) f = v.read (Elt F) g) : ∀ i ∈ v.set, f i = g i := by
  intro i hi
  obtain ⟨x, -, rfl⟩ := Finset.mem_map.mp hi
  have hx := congrFun h x
  rw [View.read_apply, View.read_apply] at hx
  exact cast_inj (congrArg (Elt F) v.elt_eq) hx

omit [FloatOps F] in
/-- Holding a memref reading `X` is holding its elements at any contents that read `X`. -/
theorem holds_eq (c : Dev nD) {sh : Shape} (M : Memref sig .tc .vmem sh .f32) (q : PosShare TreeShare) (X : Vec F sh .f32)
    (f : M.view.ty.Contents (Elt F)) (hf : M.view.read (Elt F) f = X) :
    holds c M q X = (M.view.loc (c : Thread nD τ) ↦[M.view.set]{q} f : sProp 𝕄) := by
  refine eq_of ?_ ?_
  · unfold holds owns
    iintro ⟨%g, %hg, H⟩
    ihave H' := (Entails.of_eq (pointsTo_congr (agree_of_read M.view (hg.trans hf.symm)))) $$ H
    iexact H'
  · unfold holds owns
    iintro H
    iexists f
    isplitr; · (ipureintro; exact hf)
    iexact H

omit [FloatOps F] in
/-- A full share is two half shares. -/
theorem holds_share (c : Dev nD) {sh : Shape} (M : Memref sig .tc .vmem sh .f32) (X : Vec F sh .f32) :
    (holds c M fullShare X : sProp 𝕄) = iprop(holds c M fullShare.left X ∗ holds c M fullShare.right X) := by
  have key (f : M.view.ty.Contents (Elt F)) (hf : M.view.read (Elt F) f = X) :
      (holds c M fullShare X : sProp 𝕄) = iprop(holds c M fullShare.left X ∗ holds c M fullShare.right X) := by
    rw [holds_eq c M _ X f hf, holds_eq c M _ X f hf, holds_eq c M _ X f hf]
    exact eq_of (pointsTo_share (PosShare.mem_left_op_right fullShare)).1 (pointsTo_share (PosShare.mem_left_op_right fullShare)).2
  refine eq_of ?_ ?_
  · refine (show holds c M fullShare X ⊢ iprop(∃ f, ⌜M.view.read (Elt F) f = X⌝ ∗ holds c M fullShare X) from ?_).trans ?_
    · unfold holds owns
      iintro ⟨%f, %hf, H⟩
      iexists f
      isplitr; · (ipureintro; exact hf)
      iexists f
      isplitr; · (ipureintro; exact hf)
      iexact H
    · iintro ⟨%f, %hf, H⟩
      ihave H' := (Entails.of_eq (key f hf)) $$ H
      iexact H'
  · refine (show iprop(holds c M fullShare.left X ∗ holds c M fullShare.right X)
        ⊢ iprop(∃ f, ⌜M.view.read (Elt F) f = X⌝ ∗ holds c M fullShare.left X ∗ holds c M fullShare.right X) from ?_).trans ?_
    · unfold holds owns
      iintro ⟨⟨%f, %hf, H⟩, H2⟩
      iexists f
      isplitr; · (ipureintro; exact hf)
      isplitr [H2]
      · iexists f
        isplitr; · (ipureintro; exact hf)
        iexact H
      iexact H2
    · iintro ⟨%f, %hf, H⟩
      ihave H' := (Entails.of_eq (key f hf).symm) $$ H
      iexact H'

/-! ## Splitting along an embedding -/

/-- Device `c` holds the elements of buffer `b` placed by `e`, reading `X`. -/
def hat (c : Dev nD) (b : Ref sig .tc) {I : Type} [Fintype I] (e : I ↪ b.ty.Idx) (q : PosShare TreeShare) (X : I → Elt F b.ty.elt) : sProp 𝕄 :=
  iprop(∃ f : b.ty.Contents (Elt F), ⌜(fun x => f (e x)) = X⌝ ∗ ((c : Thread nD τ).loc b ↦[Finset.univ.map e]{q} f))

omit [FloatOps F] in
theorem hat_eq (c : Dev nD) (b : Ref sig .tc) {I : Type} [Fintype I] (e : I ↪ b.ty.Idx) (q : PosShare TreeShare) (f : b.ty.Contents (Elt F)) :
    hat c b e q (fun x => f (e x)) = ((c : Thread nD τ).loc b ↦[Finset.univ.map e]{q} f : sProp 𝕄) := by
  refine eq_of ?_ ?_
  · unfold hat
    iintro ⟨%g, %hg, H⟩
    ihave H' := (Entails.of_eq (pointsTo_congr (g := f) (fun i hi => by
      obtain ⟨x, -, rfl⟩ := Finset.mem_map.mp hi
      exact congrFun hg x))) $$ H
    iexact H'
  · unfold hat
    iintro H
    iexists f
    isplitr; · (ipureintro; rfl)
    iexact H

omit [FloatOps F] in
/-- Holding what `e` places is holding what the `e' k` place, if these are `e` after maps `φ k` that cover its domain and do
    not overlap. -/
theorem hat_split (c : Dev nD) (b : Ref sig .tc) {I J κ : Type} [Fintype I] [Fintype J] [Fintype κ] [DecidableEq κ] (z : Elt F b.ty.elt)
    (e : I ↪ b.ty.Idx) (e' : κ → J ↪ b.ty.Idx) (φ : κ → J → I) (he : ∀ k x, e' k x = e (φ k x))
    (hcov : ∀ i, ∃ k x, φ k x = i) (hdis : ∀ k k' x x', φ k x = φ k' x' → k = k') (q : PosShare TreeShare) (X : I → Elt F b.ty.elt) :
    hat c b e q X = (bigSep Finset.univ fun k => hat c b (e' k) q (fun x => X (φ k x)) : sProp 𝕄) := by
  have hX : X = fun x => Function.extend e X (fun _ => z) (e x) := funext fun x => (e.injective.extend_apply _ _ _).symm
  have hk (k : κ) : (fun x => X (φ k x)) = fun x => Function.extend e X (fun _ => z) (e' k x) :=
    funext fun x => by rw [he]; exact (e.injective.extend_apply _ _ _).symm
  rw [bigSep_congr (fun k _ => by rw [hk k, hat_eq])]
  conv_lhs => rw [hX, hat_eq]
  rw [← pointsTo_biUnion]
  · congr 1
    ext i
    simp only [Finset.mem_map, Finset.mem_univ, true_and, Finset.mem_biUnion]
    constructor
    · rintro ⟨x, rfl⟩
      obtain ⟨k, y, rfl⟩ := hcov x
      exact ⟨k, y, he k y⟩
    · rintro ⟨k, y, rfl⟩
      exact ⟨_, (he k y).symm⟩
  · intro k _ k' _ hne
    rw [Finset.disjoint_left]
    intro i hi hi'
    obtain ⟨x, -, rfl⟩ := Finset.mem_map.mp hi
    obtain ⟨x', -, h'⟩ := Finset.mem_map.mp hi'
    rw [he, he] at h'
    exact hne (hdis _ _ _ _ (e.injective h').symm)

omit [FloatOps F] in
/-- The same, whatever the elements are. -/
theorem hat_split_ex (c : Dev nD) (b : Ref sig .tc) {I J κ : Type} [Fintype I] [Fintype J] [Fintype κ] [DecidableEq κ] (z : Elt F b.ty.elt)
    (e : I ↪ b.ty.Idx) (e' : κ → J ↪ b.ty.Idx) (φ : κ → J → I) (he : ∀ k x, e' k x = e (φ k x))
    (hcov : ∀ i, ∃ k x, φ k x = i) (hdis : ∀ k k' x x', φ k x = φ k' x' → k = k') (q : PosShare TreeShare) :
    (iprop(∃ X, hat c b e q X) : sProp 𝕄) = bigSep Finset.univ fun k => iprop(∃ X, hat c b (e' k) q X) := by
  refine eq_of ?_ ?_
  · iintro ⟨%X, H⟩
    ihave H' := (Entails.of_eq (hat_split c b z e e' φ he hcov hdis q X)) $$ H
    iapply (bs_mono (Φ := fun k => hat c b (e' k) q fun x => X (φ k x)) (Ψ := fun k => iprop(∃ X, hat c b (e' k) q X))
      (fun k _ => by iintro H; iexists (fun x => X (φ k x)); iexact H)) $$ H'
  · have : Nonempty (J → Elt F b.ty.elt) := ⟨fun _ => z⟩
    refine (BI.bigSep_exists_pi Finset.univ (fun (k : κ) (X : J → Elt F b.ty.elt) => hat c b (e' k) q X)).trans ?_
    iintro ⟨%Y, H⟩
    iexists (fun i => Y (hcov i).choose (hcov i).choose_spec.choose)
    iapply (Entails.of_eq (hat_split c b z e e' φ he hcov hdis q _).symm)
    iapply (Entails.of_eq (bigSep_congr (fun k _ => congrArg (hat c b (e' k) q) (funext fun x => ?_)))) $$ H
    have hs := (hcov (φ k x)).choose_spec.choose_spec
    have hkk : (hcov (φ k x)).choose = k := hdis _ _ _ _ hs
    have hinj : ∀ y y', φ k y = φ k y' → y = y' := fun y y' h => (e' k).injective (by rw [he, he, h])
    generalize hcov (φ k x) = ex at hs hkk ⊢
    revert hs
    generalize ex.choose_spec.choose = y
    revert y
    rw [hkk]
    intro y hs
    rw [hinj _ _ hs]

/-! ## The pieces of the kernel's buffers -/

/-- An element of a rank-two shape by its coordinates. -/
def idx2 {a b : ℕ} (i j : ℕ) (hi : i < a) (hj : j < b) : (⟨2, ![a, b]⟩ : Shape).Idx :=
  fun t => ⟨(![i, j] : Fin 2 → ℕ) t, by fin_cases t <;> assumption⟩
theorem ix2_ext {a b : ℕ} {x y : (⟨2, ![a, b]⟩ : Shape).Idx} (h0 : (x 0).val = (y 0).val) (h1 : (x 1).val = (y 1).val) : x = y := by
  funext t; apply Fin.ext; fin_cases t
  · exact h0
  · exact h1
theorem ix3_ext {a b c : ℕ} {x y : (⟨3, ![a, b, c]⟩ : Shape).Idx} (h0 : (x 0).val = (y 0).val) (h1 : (x 1).val = (y 1).val)
    (h2 : (x 2).val = (y 2).val) : x = y := by
  funext t; apply Fin.ext; fin_cases t
  · exact h0
  · exact h1
  · exact h2

/-- Any value. -/
def z0 : F .f32 := FloatOps.ofBits .f32 0

theorem inb_q (h : Fin 2) (p : Fin 4) : ∀ a, (![14, 64 * h.val + 16 * p.val, 0] : Fin 3 → Nat) a + S1x16x1024.size a ≤ S15x128x1024.size a := by
  revert h p; decide
/-- Quarter `p` of half `h` of the last slot. -/
def qSl (d : Bool) (h : Fin 2) (p : Fin 4) : Memref sig .tc .vmem S16x1024 .f32 :=
  ((rM d).slice (Rect.unit (s := S15x128x1024) ![14, 64 * h.val + 16 * p.val, 0] S1x16x1024.size (inb_q h p)) (fun _ => rfl)).squeeze
    S16x1024 squeezes_S1x16x1024_S16x1024
theorem inb_b (k : Fin 16) (h : Fin 2) (d : Bool) : ∀ a, (![128 * k.val + 64 * h.val, 1024 * d.toNat] : Fin 2 → Nat) a + S64x1024.size a ≤ S2048x2048.size a := by
  revert k h d; decide
theorem inb_o (k : Fin 16) (h : Fin 2) (p : Fin 4) (d : Bool) :
    ∀ a, (![128 * k.val + 64 * h.val + 16 * p.val, 1024 * d.toNat] : Fin 2 → Nat) a + S16x1024.size a ≤ S2048x2048.size a := by
  revert k h p d; decide
/-- Half `h` of chunk `k` of a direction's columns of the result, -/
def bSl (k : Fin 16) (h : Fin 2) (d : Bool) : Memref sig .tc .vmem S64x1024 .f32 :=
  oM.slice (Rect.unit (s := S2048x2048) ![128 * k.val + 64 * h.val, 1024 * d.toNat] S64x1024.size (inb_b k h d)) (fun _ => rfl)
/-- and its quarter `p`. -/
def oSl (k : Fin 16) (h : Fin 2) (p : Fin 4) (d : Bool) : Memref sig .tc .vmem S16x1024 .f32 :=
  oM.slice (Rect.unit (s := S2048x2048) ![128 * k.val + 64 * h.val + 16 * p.val, 1024 * d.toNat] S16x1024.size (inb_o k h p d)) (fun _ => rfl)

theorem slice_unit_congr {κ : Kind} {sp : Space} {t : Shape} (N : Memref sig κ sp t .f32) {o o' sz : Fin t.rank → Nat} (h : o = o') (i : ∀ a, o a + sz a ≤ t.size a)
    (i' : ∀ a, o' a + sz a ≤ t.size a) :
    N.slice (Rect.unit (s := t) o sz i) (fun _ => rfl) = N.slice (Rect.unit (s := t) o' sz i') (fun _ => rfl) := by subst h; rfl

theorem aSl_eq (c : Dev nD) (s : Fin 15) (p : Fin 2) (d : Bool) : aSl c s p d = bSl (agc c s d) p d := by
  have h : aOff c s p d = ![128 * (agc c s d).val + 64 * p.val, 1024 * d.toNat] := by
    cases d
    · exact off10_eq c s p
    · exact off11_eq c s p
  exact slice_unit_congr oM h _ _
theorem fOff_eq (c : Dev nD) (p : Fin 4) (d : Bool) : fOff c p d = ![128 * (own c d).val + 64 * (half c).val + 16 * p.val, 1024 * d.toNat] := by
  cases d
  · exact off7_eq c p
  · exact off9_eq c p
theorem oOff_eq (c : Dev nD) (p : Fin 4) (d : Bool) : oOff c p d = ![128 * (own c d).val + 64 * (half c).val + 16 * p.val, 1024 * d.toNat] := by
  cases d
  · exact off6_eq c p
  · exact off8_eq c p
theorem fSl_eq (c : Dev nD) (p : Fin 4) (d : Bool) : fSl c p d = oSl (own c d) (half c) p d := slice_unit_congr oM (fOff_eq c p d) _ _
theorem oSl_eq (c : Dev nD) (p : Fin 4) (d : Bool) : oM.slice (oRect c p d) (fun _ => rfl) = fSl c p d :=
  slice_unit_congr oM ((oOff_eq c p d).trans (fOff_eq c p d).symm) _ _
theorem gSl_eq (c : Dev nD) (p : Fin 4) (d : Bool) : gSl d c p = qSl d (1 - half c) p :=
  congrArg (fun M : Memref sig .tc .vmem S1x16x1024 .f32 => M.squeeze S16x1024 squeezes_S1x16x1024_S16x1024) (slice_unit_congr (rM d) (off4_eq c p) _ _)
theorem kSl_eq (c : Dev nD) (p : Fin 4) (d : Bool) :
    ((rM d).slice (kRect c p) (fun _ => rfl)).squeeze S16x1024 squeezes_S1x16x1024_S16x1024 = qSl d (half c) p :=
  congrArg (fun M : Memref sig .tc .vmem S1x16x1024 .f32 => M.squeeze S16x1024 squeezes_S1x16x1024_S16x1024) (slice_unit_congr (rM d) (off5_eq c p) _ _)

/-! ### Where an element of a piece lies -/

theorem unit_val {s : Shape} (o sz : Fin s.rank → Nat) (i : ∀ a, o a + sz a ≤ s.size a) (x : (Rect.unit o sz i).shape.Idx) (a : Fin s.rank) :
    ((Rect.unit o sz i).emb x a).val = o a + (x a).val := by
  rw [Rect.emb_apply]
  exact congrArg (o a + ·) (Nat.one_mul _)
/-- In a rectangle of a rank-two shape, -/
theorem emb2 {A B a b : ℕ} (o : Fin 2 → Nat) (i : ∀ t, o t + (⟨2, ![a, b]⟩ : Shape).size t ≤ (⟨2, ![A, B]⟩ : Shape).size t)
    (x : (⟨2, ![a, b]⟩ : Shape).Idx) (t : Fin 2) :
    ((Rect.unit (s := ⟨2, ![A, B]⟩) o (⟨2, ![a, b]⟩ : Shape).size i).emb x t).val = o t + (x t).val :=
  unit_val (s := ⟨2, ![A, B]⟩) o (⟨2, ![a, b]⟩ : Shape).size i x t
/-- and, the leading axis dropped, in a one-slot rectangle of a rank-three shape. -/
theorem emb3 {A B C a b : ℕ} (o : Fin 3 → Nat) (i : ∀ t, o t + (⟨3, ![1, a, b]⟩ : Shape).size t ≤ (⟨3, ![A, B, C]⟩ : Shape).size t)
    (h : (⟨2, ![a, b]⟩ : Shape).numel = (⟨3, ![1, a, b]⟩ : Shape).numel) (x : (⟨2, ![a, b]⟩ : Shape).Idx) :
    ((Rect.unit (s := ⟨3, ![A, B, C]⟩) o (⟨3, ![1, a, b]⟩ : Shape).size i).emb (Shape.reshapeEquiv h x) 0).val = o 0
    ∧ ((Rect.unit (s := ⟨3, ![A, B, C]⟩) o (⟨3, ![1, a, b]⟩ : Shape).size i).emb (Shape.reshapeEquiv h x) 1).val = o 1 + (x 0).val
    ∧ ((Rect.unit (s := ⟨3, ![A, B, C]⟩) o (⟨3, ![1, a, b]⟩ : Shape).size i).emb (Shape.reshapeEquiv h x) 2).val = o 2 + (x 1).val := by
  have hr : Shape.reshapeEquiv h x = Fin.cons ⟨0, Nat.one_pos⟩ x := Shape.reshapeEquiv_cons_one h x
  rw [hr]
  refine ⟨(unit_val (s := ⟨3, ![A, B, C]⟩) o _ i _ 0).trans ?_, (unit_val (s := ⟨3, ![A, B, C]⟩) o _ i _ 1).trans ?_,
    (unit_val (s := ⟨3, ![A, B, C]⟩) o _ i _ 2).trans ?_⟩ <;> rfl

/-! ### The first partial products -/

/-- Where an element of half `p` lies in 128 rows. -/
def iAt (p : Fin 2) (x : S64x1024.Idx) : S128x1024.Idx :=
  idx2 (64 * p.val + (x 0).val) (x 1).val (by have : (x 0).val < 64 := (x 0).isLt; have := p.isLt; omega) (x 1).isLt
theorem iAt_emb (p : Fin 2) (x : S64x1024.Idx) : (Rect.unit (s := S128x1024) ![64 * p.val, 0] S64x1024.size (inb_i p)).emb x = iAt p x :=
  ix2_ext (emb2 _ (inb_i p) x 0) ((emb2 _ (inb_i p) x 1).trans (Nat.zero_add _))
theorem iAt_cov (i : S128x1024.Idx) : ∃ p x, iAt p x = i := by
  have h0 : (i 0).val < 128 := (i 0).isLt
  refine ⟨⟨(i 0).val / 64, by omega⟩, idx2 ((i 0).val % 64) (i 1).val (Nat.mod_lt _ (by decide)) (i 1).isLt, ix2_ext ?_ rfl⟩
  show 64 * ((i 0).val / 64) + (i 0).val % 64 = _
  omega
theorem iAt_dis (p p' : Fin 2) (x x' : S64x1024.Idx) (h : iAt p x = iAt p' x') : p = p' := by
  have h0 : 64 * p.val + (x 0).val = 64 * p'.val + (x' 0).val := congrArg (fun i : S128x1024.Idx => (i 0).val) h
  have h1 : (x 0).val < 64 := (x 0).isLt
  have h2 : (x' 0).val < 64 := (x' 0).isLt
  apply Fin.ext; omega
omit [FloatOps F] in
theorem hlf_iAt (p : Fin 2) (X : FVec F S128x1024 .f32) : hlf p X = fun x => X (iAt p x) := by
  funext x
  exact congrArg X (ix2_ext rfl (Nat.zero_add _))

/-- The first partial products are their two halves. -/
theorem iM_split (c : Dev nD) (d : Bool) (q : PosShare TreeShare) (X : FVec F S128x1024 .f32) :
    (holds c (iM d) q X : sProp 𝕄) = bigSep Finset.univ fun p => holds c (iSl d p) q (hlf p X) := by
  simp only [hlf_iAt]
  cases d
  · exact hat_split c cc0_scratch0 z0 (iM false).view.emb (fun p => (iSl false p).view.emb) iAt iAt_emb iAt_cov iAt_dis q X
  · exact hat_split c cc0_scratch1 z0 (iM true).view.emb (fun p => (iSl true p).view.emb) iAt iAt_emb iAt_cov iAt_dis q X

/-! ### The ring buffers -/

/-- Where an element of a half slot lies. -/
def rAt (sp : Fin 15 × Fin 2) (x : S64x1024.Idx) : S15x128x1024.Idx := (rRect sp.1 sp.2).emb (Shape.reshapeEquiv (s := S1x64x1024) (s' := S64x1024) rfl x)
theorem rAt_val (sp : Fin 15 × Fin 2) (x : S64x1024.Idx) :
    (rAt sp x 0).val = sp.1.val ∧ (rAt sp x 1).val = 64 * sp.2.val + (x 0).val ∧ (rAt sp x 2).val = 0 + (x 1).val := by
  have h := emb3 _ (inb_r sp.1 sp.2) rfl x
  exact ⟨h.1, h.2.1, h.2.2⟩
theorem rRect_emb (sp : Fin 15 × Fin 2) (x : S64x1024.Idx) :
    (rRect sp.1 sp.2).emb (Shape.reshapeEquiv (s := S1x64x1024) (s' := S64x1024) rfl x) = rAt sp x := rfl
theorem rAt_cov (i : S15x128x1024.Idx) : ∃ sp x, rAt sp x = i := by
  have h1 : (i 1).val < 128 := (i 1).isLt
  refine ⟨(i 0, ⟨(i 1).val / 64, by omega⟩), idx2 ((i 1).val % 64) (i 2).val (Nat.mod_lt _ (by decide)) (i 2).isLt, ix3_ext ?_ ?_ ?_⟩
  · exact (rAt_val _ _).1
  · refine (rAt_val _ _).2.1.trans ?_
    show 64 * ((i 1).val / 64) + (i 1).val % 64 = _
    omega
  · exact (rAt_val _ _).2.2.trans (Nat.zero_add _)
theorem rAt_dis (p p' : Fin 15 × Fin 2) (x x' : S64x1024.Idx) (h : rAt p x = rAt p' x') : p = p' := by
  have h0 := (rAt_val p x).1.symm.trans ((congrArg (fun i : S15x128x1024.Idx => (i 0).val) h).trans (rAt_val p' x').1)
  have h1 := (rAt_val p x).2.1.symm.trans ((congrArg (fun i : S15x128x1024.Idx => (i 1).val) h).trans (rAt_val p' x').2.1)
  have h2 : (x 0).val < 64 := (x 0).isLt
  have h3 : (x' 0).val < 64 := (x' 0).isLt
  exact Prod.ext (Fin.ext h0) (Fin.ext (by omega))

/-- A ring buffer is its thirty half slots. -/
theorem rM_split (c : Dev nD) (d : Bool) :
    (some' (F := F) c (rM d) : sProp 𝕄) = bigSep Finset.univ fun sp : Fin 15 × Fin 2 => some' c (rSl d sp.1 sp.2) := by
  cases d
  · exact (show some' (F := F) c (rM false) = iprop(∃ X, hat c cc0_scratch2 (rM false).view.emb fullShare X) from rfl).trans
      ((hat_split_ex c cc0_scratch2 z0 (rM false).view.emb (fun sp : Fin 15 × Fin 2 => (rSl false sp.1 sp.2).view.emb) rAt rRect_emb rAt_cov rAt_dis
        fullShare).trans (bigSep_congr fun sp _ => rfl))
  · exact (show some' (F := F) c (rM true) = iprop(∃ X, hat c cc0_scratch3 (rM true).view.emb fullShare X) from rfl).trans
      ((hat_split_ex c cc0_scratch3 z0 (rM true).view.emb (fun sp : Fin 15 × Fin 2 => (rSl true sp.1 sp.2).view.emb) rAt rRect_emb rAt_cov rAt_dis
        fullShare).trans (bigSep_congr fun sp _ => rfl))

/-! ### Quarters of sixty-four rows -/

/-- Where an element of quarter `p` lies in 64 rows. -/
def qAt (p : Fin 4) (x : S16x1024.Idx) : S64x1024.Idx :=
  idx2 (16 * p.val + (x 0).val) (x 1).val (by have : (x 0).val < 16 := (x 0).isLt; have := p.isLt; omega) (x 1).isLt
theorem qAt_cov (i : S64x1024.Idx) : ∃ p x, qAt p x = i := by
  have h0 : (i 0).val < 64 := (i 0).isLt
  refine ⟨⟨(i 0).val / 16, by omega⟩, idx2 ((i 0).val % 16) (i 1).val (Nat.mod_lt _ (by decide)) (i 1).isLt, ix2_ext ?_ rfl⟩
  show 16 * ((i 0).val / 16) + (i 0).val % 16 = _
  omega
theorem qAt_dis (p p' : Fin 4) (x x' : S16x1024.Idx) (h : qAt p x = qAt p' x') : p = p' := by
  have h0 : 16 * p.val + (x 0).val = 16 * p'.val + (x' 0).val := congrArg (fun i : S64x1024.Idx => (i 0).val) h
  have h1 : (x 0).val < 16 := (x 0).isLt
  have h2 : (x' 0).val < 16 := (x' 0).isLt
  apply Fin.ext; omega
omit [FloatOps F] in
theorem row4_qAt (p : Fin 4) (X : FVec F S64x1024 .f32) : row4 p X = fun x => X (qAt p x) := by
  funext x
  exact congrArg X (ix2_ext rfl (Nat.zero_add _))

theorem hAt_emb (p : Fin 4) (x : S16x1024.Idx) : (hRect p).emb x = qAt p x :=
  ix2_ext (emb2 _ (inb_h p) x 0) ((emb2 _ (inb_h p) x 1).trans (Nat.zero_add _))
/-- The buffer for the partner's rows is its four quarters. -/
theorem hM_split (c : Dev nD) (d : Bool) : (some' (F := F) c (hM d) : sProp 𝕄) = bigSep Finset.univ fun p : Fin 4 => some' c (hSl d p) := by
  cases d
  · exact hat_split_ex c cc0_scratch4 z0 (hM false).view.emb (fun p => (hSl false p).view.emb) qAt hAt_emb qAt_cov qAt_dis fullShare
  · exact hat_split_ex c cc0_scratch5 z0 (hM true).view.emb (fun p => (hSl true p).view.emb) qAt hAt_emb qAt_cov qAt_dis fullShare

theorem qSl_emb (h : Fin 2) (p : Fin 4) (x : S16x1024.Idx) :
    (Rect.unit (s := S15x128x1024) ![14, 64 * h.val + 16 * p.val, 0] S1x16x1024.size (inb_q h p)).emb (Shape.reshapeEquiv (s := S1x16x1024) (s' := S16x1024) rfl x)
      = rAt (14, h) (qAt p x) := by
  have hv := emb3 _ (inb_q h p) rfl x
  refine ix3_ext (hv.1.trans (rAt_val (14, h) (qAt p x)).1.symm) (hv.2.1.trans (Eq.trans ?_ (rAt_val (14, h) (qAt p x)).2.1.symm)) (hv.2.2.trans (rAt_val (14, h) (qAt p x)).2.2.symm)
  show 64 * h.val + 16 * p.val + (x 0).val = 64 * h.val + (16 * p.val + (x 0).val)
  omega
/-- Half of the last slot is its four quarters. -/
theorem rS_split (c : Dev nD) (d : Bool) (h : Fin 2) (q : PosShare TreeShare) (X : FVec F S64x1024 .f32) :
    (holds c (rSl d 14 h) q X : sProp 𝕄) = bigSep Finset.univ fun p => holds c (qSl d h p) q (row4 p X) := by
  simp only [row4_qAt]
  cases d
  · exact hat_split c cc0_scratch2 z0 (rSl false 14 h).view.emb (fun p => (qSl false h p).view.emb) qAt (qSl_emb h) qAt_cov qAt_dis q X
  · exact hat_split c cc0_scratch3 z0 (rSl true 14 h).view.emb (fun p => (qSl true h p).view.emb) qAt (qSl_emb h) qAt_cov qAt_dis q X
/-- The same, whatever it holds. -/
theorem rS_split_ex (c : Dev nD) (d : Bool) (h : Fin 2) :
    (some' (F := F) c (rSl d 14 h) : sProp 𝕄) = bigSep Finset.univ fun p => some' c (qSl d h p) := by
  cases d
  · exact hat_split_ex c cc0_scratch2 z0 (rSl false 14 h).view.emb (fun p => (qSl false h p).view.emb) qAt (qSl_emb h) qAt_cov qAt_dis fullShare
  · exact hat_split_ex c cc0_scratch3 z0 (rSl true 14 h).view.emb (fun p => (qSl true h p).view.emb) qAt (qSl_emb h) qAt_cov qAt_dis fullShare

/-! ### The result -/

/-- Where an element of a block lies in the result, and of a quarter of one. -/
def bAt (k : Fin 16) (h : Fin 2) (d : Bool) (x : S64x1024.Idx) : S2048x2048.Idx := (bSl k h d).view.emb x
def oAt (k : Fin 16) (h : Fin 2) (p : Fin 4) (d : Bool) (x : S16x1024.Idx) : S2048x2048.Idx := (oSl k h p d).view.emb x
theorem bSl_val (k : Fin 16) (h : Fin 2) (d : Bool) (x : S64x1024.Idx) :
    (bAt k h d x 0).val = 128 * k.val + 64 * h.val + (x 0).val ∧ (bAt k h d x 1).val = 1024 * d.toNat + (x 1).val :=
  ⟨emb2 _ (inb_b k h d) x 0, emb2 _ (inb_b k h d) x 1⟩
theorem oSl_val (k : Fin 16) (h : Fin 2) (p : Fin 4) (d : Bool) (x : S16x1024.Idx) :
    (oAt k h p d x 0).val = 128 * k.val + 64 * h.val + 16 * p.val + (x 0).val ∧ (oAt k h p d x 1).val = 1024 * d.toNat + (x 1).val :=
  ⟨emb2 _ (inb_o k h p d) x 0, emb2 _ (inb_o k h p d) x 1⟩
theorem bAt_cov (i : S2048x2048.Idx) : ∃ (khd : Fin 16 × Fin 2 × Bool) (x : S64x1024.Idx), bAt khd.1 khd.2.1 khd.2.2 x = i := by
  have h0 : (i 0).val < 2048 := (i 0).isLt
  have h1 : (i 1).val < 2048 := (i 1).isLt
  refine ⟨(chunkOf i, halfOf i, dirOf i), idx2 ((i 0).val % 64) ((i 1).val % 1024) (Nat.mod_lt _ (by decide)) (Nat.mod_lt _ (by decide)), ix2_ext ?_ ?_⟩
  · refine (bSl_val _ _ _ _).1.trans ?_
    show 128 * ((i 0).val / 128) + 64 * ((i 0).val / 64 % 2) + (i 0).val % 64 = _
    omega
  · refine (bSl_val _ _ _ _).2.trans ?_
    show 1024 * (decide (1024 ≤ (i 1).val)).toNat + (i 1).val % 1024 = _
    by_cases hd : 1024 ≤ (i 1).val
    · rw [decide_eq_true hd]; show 1024 * 1 + _ = _; omega
    · rw [decide_eq_false hd]; show 1024 * 0 + _ = _; omega
theorem bAt_dis (k k' : Fin 16 × Fin 2 × Bool) (x x' : S64x1024.Idx)
    (h : bAt k.1 k.2.1 k.2.2 x = bAt k'.1 k'.2.1 k'.2.2 x') : k = k' := by
  have h0 := (bSl_val k.1 k.2.1 k.2.2 x).1.symm.trans ((congrArg (fun i : S2048x2048.Idx => (i 0).val) h).trans (bSl_val k'.1 k'.2.1 k'.2.2 x').1)
  have h1 := (bSl_val k.1 k.2.1 k.2.2 x).2.symm.trans ((congrArg (fun i : S2048x2048.Idx => (i 1).val) h).trans (bSl_val k'.1 k'.2.1 k'.2.2 x').2)
  have h2 : (x 0).val < 64 := (x 0).isLt
  have h3 : (x' 0).val < 64 := (x' 0).isLt
  have h4 : (x 1).val < 1024 := (x 1).isLt
  have h5 : (x' 1).val < 1024 := (x' 1).isLt
  obtain ⟨k, p, d⟩ := k
  obtain ⟨k', p', d'⟩ := k'
  have hp := p.isLt
  have hp' := p'.isLt
  dsimp only at h0 h1
  have hd : d = d' := by
    cases d <;> cases d' <;> first | rfl | (simp only [Bool.toNat_true, Bool.toNat_false] at h1; omega)
  have hk : k = k' := Fin.ext (by omega)
  have hpp : p = p' := Fin.ext (by omega)
  rw [hd, hk, hpp]

/-- The result is its sixty-four blocks, -/
theorem oM_split (c : Dev nD) (q : PosShare TreeShare) (X : FVec F S2048x2048 .f32) :
    (holds c oM q X : sProp 𝕄) = bigSep Finset.univ fun k : Fin 16 × Fin 2 × Bool =>
      holds c (bSl k.1 k.2.1 k.2.2) q ((bSl k.1 k.2.1 k.2.2).view.read (Elt F) X) :=
  hat_split c cc0_stg2_0 z0 oM.view.emb (fun k : Fin 16 × Fin 2 × Bool => (bSl k.1 k.2.1 k.2.2).view.emb) (fun k => bAt k.1 k.2.1 k.2.2)
    (fun _ _ => rfl) bAt_cov bAt_dis q X
theorem oM_split_ex (c : Dev nD) :
    (some' (F := F) c oM : sProp 𝕄) = bigSep Finset.univ fun k : Fin 16 × Fin 2 × Bool => some' c (bSl k.1 k.2.1 k.2.2) :=
  hat_split_ex c cc0_stg2_0 z0 oM.view.emb (fun k : Fin 16 × Fin 2 × Bool => (bSl k.1 k.2.1 k.2.2).view.emb) (fun k => bAt k.1 k.2.1 k.2.2)
    (fun _ _ => rfl) bAt_cov bAt_dis fullShare
theorem oSl_emb (k : Fin 16) (h : Fin 2) (d : Bool) (p : Fin 4) (x : S16x1024.Idx) : oAt k h p d x = bAt k h d (qAt p x) := by
  refine ix2_ext ((oSl_val k h p d x).1.trans (Eq.trans ?_ (bSl_val k h d (qAt p x)).1.symm)) ((oSl_val k h p d x).2.trans (bSl_val k h d (qAt p x)).2.symm)
  show _ = 128 * k.val + 64 * h.val + (16 * p.val + (x 0).val)
  omega
/-- and a block its four quarters. -/
theorem bSl_split (c : Dev nD) (k : Fin 16) (h : Fin 2) (d : Bool) (q : PosShare TreeShare) (X : FVec F S2048x2048 .f32) :
    (holds c (bSl k h d) q ((bSl k h d).view.read (Elt F) X) : sProp 𝕄) = bigSep Finset.univ fun p : Fin 4 =>
      holds c (oSl k h p d) q ((oSl k h p d).view.read (Elt F) X) := by
  have e : (fun p => holds (F := F) c (oSl k h p d) q ((oSl k h p d).view.read (Elt F) X))
      = fun p => holds c (oSl k h p d) q (fun x => ((bSl k h d).view.read (Elt F) X) (qAt p x)) :=
    funext fun p => congrArg (holds c (oSl k h p d) q) (funext fun x => congrArg X (oSl_emb k h d p x))
  rw [e]
  exact hat_split c cc0_stg2_0 z0 (bSl k h d).view.emb (fun p => (oSl k h p d).view.emb) qAt (oSl_emb k h d) qAt_cov qAt_dis q _
theorem bSl_split_ex (c : Dev nD) (k : Fin 16) (h : Fin 2) (d : Bool) :
    (some' (F := F) c (bSl k h d) : sProp 𝕄) = bigSep Finset.univ fun p : Fin 4 => some' c (oSl k h p d) :=
  hat_split_ex c cc0_stg2_0 z0 (bSl k h d).view.emb (fun p => (oSl k h p d).view.emb) qAt (oSl_emb k h d) qAt_cov qAt_dis fullShare

end Cert.Ring
end
-- ==== Proof.Mem.lean ====
/-
# Loads and stores of pieces

A load or a store through a rectangle of a memref, by the piece it touches: the rectangle's slice, or the slice with its
unit axes dropped.
-/
module

public import proofs.«01_k».proof.Proof.Pieces

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

omit [FloatOps F] in
/-- Dropping unit axes of a memref is renaming the indices of what it reads. -/
theorem holds_squeeze (c : Dev nD) {sh sh' : Shape} (M : Memref sig .tc .vmem sh .f32) (h : sh.Squeezes sh') (q : PosShare TreeShare) (X : Vec F sh' .f32) :
    (holds c (M.squeeze sh' h) q X : sProp 𝕄) = holds c M q (shapeCast sh X h.numel_eq.symm) := by
  have hset : (M.squeeze sh' h).view.set = M.view.set := View.set_reshape M.view h.numel_eq
  unfold holds owns
  refine eq_of ?_ ?_
  · iintro ⟨%f, %hf, H⟩
    iexists f
    isplitr
    · ipureintro
      funext j
      show M.view.read (Elt F) f j = X (Shape.reshapeEquiv h.numel_eq.symm j)
      rw [← hf]
      show _ = M.view.read (Elt F) f (Shape.reshapeEquiv h.numel_eq (Shape.reshapeEquiv h.numel_eq.symm j))
      rw [Shape.reshapeEquiv_reshapeEquiv, Shape.reshapeEquiv_self]
    rw [hset]; iexact H
  · iintro ⟨%f, %hf, H⟩
    iexists f
    isplitr
    · ipureintro
      funext j
      show M.view.read (Elt F) f (Shape.reshapeEquiv h.numel_eq j) = X j
      rw [hf]
      show X (Shape.reshapeEquiv h.numel_eq.symm (Shape.reshapeEquiv h.numel_eq j)) = X j
      rw [Shape.reshapeEquiv_reshapeEquiv, Shape.reshapeEquiv_self]
    rw [hset]; iexact H

/-- A load of what a slice holds. -/
theorem wp_load_sl (c : Dev nD) {sh : Shape} (N : Memref sig .tc .vmem sh .f32) (r : Rect sh) (hs : ∀ a, r.stride a = 1) (q : PosShare TreeShare)
    (X : Vec F r.shape .f32) (hl : N.view.LoadsAt r.toLoadRect) (k : Vec F r.shape .f32 → PG F) (Q : PUnit → sProp 𝕄) :
    holds c (N.slice r hs) q X ⊢ iprop((holds c (N.slice r hs) q X -∗ WP c (k X) Q) -∗ WP c (.op (.load N r.toLoadRect hl) k) Q) := by
  unfold holds owns
  iintro ⟨%f, %hf, H⟩ Hk
  iapply (wp_load_rect 𝒱₀ (c : Thread nD τ) none Set.univ (m := N) (r := r) (subset_refl _)) $$ H
  iintro H
  rw [show (N.access r).read (Elt F) f = X from hf]
  iapply Hk
  iexists f
  isplitr; · (ipureintro; exact hf)
  iexact H

/-- A store over what a slice holds. -/
theorem wp_store_sl (c : Dev nD) {sh : Shape} (N : Memref sig .tc .vmem sh .f32) (r : Rect sh) (hs : ∀ a, r.stride a = 1)
    (w : Vec F r.shape .f32) (hx : (N.access r).Stores Finset.univ) (hm : (Finset.univ : Finset r.shape.Idx) = Finset.univ ∨ ∀ a, r.stride a = 1)
    (k : PUnit → PG F) (Q : PUnit → sProp 𝕄) :
    some' (F := F) c (N.slice r hs) ⊢ iprop((holds c (N.slice r hs) fullShare w -∗ WP c (k ⟨⟩) Q) -∗ WP c (.op (.store N r w Finset.univ hx hm) k) Q) := by
  unfold some' holds owns
  iintro ⟨%X, %f, %hf, H⟩ Hk
  iapply (wp_store 𝒱₀ (c : Thread nD τ) none Set.univ (m := N) (r := r) (Mk := Finset.univ) (S := (N.slice r hs).view.set)
    (subset_refl _)) $$ H
  iintro H
  iapply Hk
  iexists ((N.access r).write (Elt F) f w Finset.univ)
  isplitr; · (ipureintro; exact View.read_write_univ _ _)
  iexact H

/-- A load of what a slice without its unit axes holds. -/
theorem wp_load_sq (c : Dev nD) {sh sh' : Shape} (N : Memref sig .tc .vmem sh .f32) (r : Rect sh) (hs : ∀ a, r.stride a = 1) (hq : r.shape.Squeezes sh')
    (q : PosShare TreeShare) (X : Vec F sh' .f32) (hl : N.view.LoadsAt r.toLoadRect) (k : Vec F r.shape .f32 → PG F) (Q : PUnit → sProp 𝕄) :
    holds c ((N.slice r hs).squeeze sh' hq) q X
      ⊢ iprop((holds c ((N.slice r hs).squeeze sh' hq) q X -∗ WP c (k (shapeCast r.shape X hq.numel_eq.symm)) Q) -∗ WP c (.op (.load N r.toLoadRect hl) k) Q) := by
  rw [holds_squeeze]
  exact wp_load_sl c N r hs q _ hl k Q

/-- A store over what a slice without its unit axes holds. -/
theorem wp_store_sq (c : Dev nD) {sh sh' : Shape} (N : Memref sig .tc .vmem sh .f32) (r : Rect sh) (hs : ∀ a, r.stride a = 1) (hq : r.shape.Squeezes sh')
    (X w' : Vec F sh' .f32) (w : Vec F r.shape .f32) (hw : w = shapeCast r.shape w' hq.numel_eq.symm) (hx : (N.access r).Stores Finset.univ)
    (hm : (Finset.univ : Finset r.shape.Idx) = Finset.univ ∨ ∀ a, r.stride a = 1) (k : PUnit → PG F) (Q : PUnit → sProp 𝕄) :
    holds c ((N.slice r hs).squeeze sh' hq) fullShare X
      ⊢ iprop((holds c ((N.slice r hs).squeeze sh' hq) fullShare w' -∗ WP c (k ⟨⟩) Q) -∗ WP c (.op (.store N r w Finset.univ hx hm) k) Q) := by
  subst hw
  rw [holds_squeeze, holds_squeeze]
  iintro H Hk
  iapply (wp_store_sl c N r hs _ hx hm k Q) $$ [H]
  · iexists _; iexact H
  iexact Hk

/-- Changing the shape and back changes nothing. -/
theorem shapeCast_back {A B : Shape} (X : Vec F A .f32) (h : B.numel = A.numel) (h' : A.numel = B.numel) : shapeCast A (shapeCast B X h) h' = X := by
  funext j
  show X (Shape.reshapeEquiv h (Shape.reshapeEquiv h' j)) = X j
  rw [Shape.reshapeEquiv_reshapeEquiv, Shape.reshapeEquiv_self]

/-- A loop with an invariant that consumes one resource and yields another at each turn. -/
theorem wp_loop (c : Dev nD) {n : ℕ} (A : ℕ → sProp 𝕄) (Φ Ψ : Fin n → sProp 𝕄) (f : Fin n → PG F → PG F) (Q : PUnit → sProp 𝕄)
    (h : ∀ (i : Fin n) (k : PG F), iprop(A i.val ∗ Φ i) ⊢ iprop((iprop(A (i.val + 1) ∗ Ψ i) -∗ WP c k Q) -∗ WP c (f i k) Q)) (l : List (Fin n))
    (hl : l = List.finRange n) (k : PG F) :
    iprop(A 0 ∗ bigSep Finset.univ Φ) ⊢ iprop((iprop(A n ∗ bigSep Finset.univ Ψ) -∗ WP c k Q) -∗ WP c (iter l f k) Q) := by
  have hge (i : Fin n) : Finset.univ.filter (fun j : Fin n => i.val ≤ j.val) = insert i (Finset.univ.filter fun j : Fin n => i.val + 1 ≤ j.val) := by
    ext j
    simp only [Finset.mem_filter, Finset.mem_univ, true_and, Finset.mem_insert, Fin.ext_iff]
    omega
  have hlt (i : Fin n) : Finset.univ.filter (fun j : Fin n => j.val < i.val + 1) = insert i (Finset.univ.filter fun j : Fin n => j.val < i.val) := by
    ext j
    simp only [Finset.mem_filter, Finset.mem_univ, true_and, Finset.mem_insert, Fin.ext_iff]
    omega
  have key := wp_iter c (fun j => iprop(A j ∗ bigSep (Finset.univ.filter fun i : Fin n => j ≤ i.val) Φ ∗ bigSep (Finset.univ.filter fun i : Fin n => i.val < j) Ψ)) f Q
    (fun i k => by
      rw [hge, bs_insert (by simp), hlt, bs_insert (by simp)]
      iintro ⟨HA, ⟨Hi, HΦ⟩, HΨ⟩ Hk
      iapply (h i k) $$ [HA Hi]
      · isplitl [HA] <;> iassumption
      iintro ⟨HA, Hi⟩
      iapply Hk
      isplitl [HA]; · iexact HA
      isplitl [HΦ]; · iexact HΦ
      isplitl [Hi] <;> iassumption) l hl k
  have e0 : Finset.univ.filter (fun i : Fin n => 0 ≤ i.val) = Finset.univ := Finset.filter_true_of_mem fun _ _ => Nat.zero_le _
  have e1 : Finset.univ.filter (fun i : Fin n => i.val < 0) = ∅ := Finset.filter_eq_empty_iff.mpr fun _ _ => Nat.not_lt_zero _
  have e2 : Finset.univ.filter (fun i : Fin n => n ≤ i.val) = ∅ := Finset.filter_eq_empty_iff.mpr fun i _ => by omega
  have e3 : Finset.univ.filter (fun i : Fin n => i.val < n) = Finset.univ := Finset.filter_true_of_mem fun i _ => i.isLt
  rw [e0, e1, e2, e3, bigSep_empty, bigSep_empty] at key
  iintro ⟨HA, HΦ⟩ Hk
  iapply key $$ [HA HΦ]
  · isplitl [HA]; · iexact HA
    isplitl [HΦ]; · iexact HΦ
    iempintro
  iintro ⟨HA, -, HΨ⟩
  iapply Hk
  isplitl [HA] <;> iassumption

end Cert.Ring
end
-- ==== Proof.Scatter.lean ====
/-
# The reduce-scatter

The first partial products, the fifteen steps of the two rings, and what is left at their end: the complete sums in the
last slot, every copy of the phase sent and received.
-/
module

public import proofs.«01_k».proof.Proof.Mem

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-- A load through any rectangle of a memref that is held. -/
theorem wp_load_in (c : Dev nD) {sh : Shape} (N : Memref sig .tc .vmem sh .f32) (r : LoadRect sh) (q : PosShare TreeShare)
    (X : Vec F sh .f32) (hl : N.view.LoadsAt r) (k : Vec F r.shape .f32 → PG F) (Q : PUnit → sProp 𝕄) :
    holds c N q X ⊢ iprop((holds c N q X -∗ WP c (k fun x => X (r.idx x)) Q) -∗ WP c (.op (.load N r hl) k) Q) := by
  unfold holds owns
  iintro ⟨%f, %hf, H⟩ Hk
  iapply (wp_load 𝒱₀ (c : Thread nD τ) none Set.univ (m := N) (r := r) (S := N.view.set) (Finset.map_subset_map.mpr (Finset.subset_univ _))) $$ H
  iintro H
  rw [show N.view.readAt (Elt F) r f = fun x => X (r.idx x) from hf ▸ rfl]
  iapply Hk
  iexists f
  isplitr; · (ipureintro; exact hf)
  iexact H

/-- The store of the first partial products. -/
theorem wp_store_i (c : Dev nD) (d : Bool) (w : FVec F S128x1024 .f32) (hx : ((iM d).access iRect).Stores Finset.univ)
    (hm : (Finset.univ : Finset iRect.shape.Idx) = Finset.univ ∨ ∀ a, iRect.stride a = 1) (k : PUnit → PG F) (Q : PUnit → sProp 𝕄) :
    some' (F := F) c (iM d) ⊢ iprop((holds c (iM d) fullShare w -∗ WP c (k ⟨⟩) Q) -∗ WP c (.op (.store (iM d) iRect w Finset.univ hx hm) k) Q) := by
  have hw (f : (iM d).view.ty.Contents (Elt F)) : (iM d).view.read (Elt F) (((iM d).access iRect).write (Elt F) f w Finset.univ) = w := by
    have h0 : (![0, 0] : Fin 2 → ℕ) = fun _ => 0 := by funext a; fin_cases a <;> rfl
    cases d
    · exact Memref.write_access_unit_zero_univ (Elt F) cc0_scratch0 h0 inb_S128x1024_S128x1024_0_0 f w
    · exact Memref.write_access_unit_zero_univ (Elt F) cc0_scratch1 h0 inb_S128x1024_S128x1024_0_0 f w
  unfold some' holds owns
  iintro ⟨%X, %f, %hf, H⟩ Hk
  iapply (wp_store 𝒱₀ (c : Thread nD τ) none Set.univ (m := iM d) (r := iRect) (Mk := Finset.univ) (S := (iM d).view.set)
    (View.set_slice_subset (iM d).view iRect)) $$ H
  iintro H
  iapply Hk
  iexists (((iM d).access iRect).write (Elt F) f w Finset.univ)
  isplitr; · (ipureintro; exact hw f)
  iexact H

/-- A device's columns of `x` and rows of `w`, staged. -/
def ins (c : Dev nD) : sProp 𝕄 := iprop(holds c xM fullShare (xstg m c) ∗ holds c wM fullShare (wstg m c))

/-- The first partial products of both directions. -/
theorem wp_init (c : Dev nD) (k : PG F) (Q : PUnit → sProp 𝕄) :
    iprop(ins m c ∗ some' (F := F) c (iM false) ∗ some' (F := F) c (iM true))
      ⊢ iprop((iprop(ins m c ∗ holds c (iM false) fullShare (part0 m c false) ∗ holds c (iM true) fullShare (part0 m c true)) -∗ WP c k Q)
        -∗ WP c (initOps c k) Q) := by
  unfold initOps ins some'
  iintro ⟨⟨Hx, Hw⟩, ⟨%f0, H0⟩, ⟨%f1, H1⟩⟩ Hk
  iapply (wp_load_in c xM _ _ _ _ _ Q) $$ Hx; iintro Hx
  iapply (wp_load_in c wM _ _ _ _ _ Q) $$ Hw; iintro Hw
  iapply (wp_load_in c (iM false) _ _ _ _ _ Q) $$ H0; iintro H0
  iapply (wp_store_i c false _ _ _ _ Q) $$ [H0]
  · iexists f0; iexact H0
  iintro H0
  iapply (wp_load_in c xM _ _ _ _ _ Q) $$ Hx; iintro Hx
  iapply (wp_load_in c wM _ _ _ _ _ Q) $$ Hw; iintro Hw
  iapply (wp_load_in c (iM true) _ _ _ _ _ Q) $$ H1; iintro H1
  iapply (wp_store_i c true _ _ _ _ Q) $$ [H1]
  · iexists f1; iexact H1
  iintro H1
  iapply Hk
  isplitl [Hx Hw]
  · isplitl [Hx] <;> iassumption
  isplitl [H0]; · iexact H0
  iexact H1

/-- The partial products of step `s`. -/
theorem wp_part (c : Dev nD) (s : Fin 15) (k : FVec F S128x1024 .f32 → FVec F S128x1024 .f32 → PG F) (Q : PUnit → sProp 𝕄) :
    ins m c ⊢ iprop((ins m c -∗ WP c (k (part m c s false) (part m c s true)) Q) -∗ WP c (partOps c s k) Q) := by
  unfold partOps ins
  iintro ⟨Hx, Hw⟩ Hk
  iapply (wp_load_in c xM _ _ _ _ _ Q) $$ Hx; iintro Hx
  iapply (wp_load_in c wM _ _ _ _ _ Q) $$ Hw; iintro Hw
  iapply (wp_load_in c xM _ _ _ _ _ Q) $$ Hx; iintro Hx
  iapply (wp_load_in c wM _ _ _ _ _ Q) $$ Hw; iintro Hw
  iapply Hk
  isplitl [Hx] <;> iassumption

/-- The sum stored over what arrived. -/
theorem acc_val (p : Fin 2) (P : FVec F S128x1024 .f32) (X : FVec F S64x1024 .f32) (h h' : S1x64x1024.numel = S64x1024.numel) :
    accV p P (shapeCast S1x64x1024 X h) = shapeCast S1x64x1024 (addf X (hlf p P)) h' := by
  fin_cases p
  · show k0_pay6 P _ = _
    unfold k0_pay6
    rw [shapeCast_back]; rfl
  · show k0_pay8 P _ = _
    unfold k0_pay8
    rw [shapeCast_back]; rfl

/-- The next receive of the reduce-scatter, and the device's partial product added. -/
theorem wp_acc (c : Dev nD) (s : Fin 15) (p : Fin 2) (d : Bool) (n k : ℕ) (hk : k = ord (.rs s p d)) (hn : k < n) (rest : PG F) (Q : PUnit → sProp 𝕄) :
    Eng m K c n k ⊢ iprop((iprop(Eng m K c n (k + 1) ∗ holds c (rSl d s p) fullShare (rsv m (s.val + 1) s.isLt c p d)) -∗ WP c rest Q)
      -∗ WP c (accOps c s p d (part m c s d) rest) Q) := by
  subst hk
  unfold accOps
  iintro HE Hk
  iapply (wp_recvOp m K c (.rs s p d) n hn _ Q) $$ HE
  iintro ⟨HE, H⟩
  ihave H := (show got m c (.rs s p d) ⊢ holds c (rSl d s p) fullShare (rsv m s.val s.isLt.le (prv c d) p d) from Entails.of_eq rfl) $$ H
  unfold rSl
  iapply (wp_load_sq c (rM d) (rRect s p) (fun _ => rfl) squeezes_S1x64x1024_S64x1024 _ _ _ _ Q) $$ H; iintro H
  iapply (wp_load_sq c (rM d) (rRect s p) (fun _ => rfl) squeezes_S1x64x1024_S64x1024 _ _ _ _ Q) $$ H; iintro H
  iapply (wp_store_sq c (rM d) (rRect s p) (fun _ => rfl) squeezes_S1x64x1024_S64x1024 _ (rsv m (s.val + 1) s.isLt c p d) _
    (acc_val p _ _ _ _) _ _ _ Q) $$ H
  iintro H
  iapply Hk
  isplitl [HE] <;> iassumption

theorem hav_rs0 (c : Dev nD) (p : Fin 2) (d : Bool) : hav m c (.rs 0 p d) = holds c (iSl d p) fullShare (hlf p (part0 m c d)) := rfl
theorem hav_rs_succ (c : Dev nD) (s : Fin 14) (p : Fin 2) (d : Bool) :
    hav m c (.rs s.succ p d) = holds c (rSl d s.castSucc p) fullShare (rsv m (s.castSucc.val + 1) s.castSucc.isLt c p d) := by
  obtain ⟨s, hs⟩ := s; rfl

omit [FloatOps F] in
theorem emps {I : Type} (S : Finset I) : (iprop(emp) : sProp 𝕄) ⊢ bigSep S fun _ => iprop(emp) := Entails.of_eq (bigSep_emp_const S).symm

/-- The next send, at a place given by name. -/
theorem wp_send (c : Dev nD) (t : Xf) (n k : ℕ) (hn : n = ord t) (rest : PG F) (Q : PUnit → sProp 𝕄) :
    iprop(Eng m K c n k ∗ hav m c t) ⊢ iprop((Eng m K c (n + 1) k -∗ WP c rest Q) -∗ WP c (sendOp c t rest) Q) := by
  subst hn; exact wp_sendOp m K c t k rest Q
/-- The next receive, at a place given by name. -/
theorem wp_recv (c : Dev nD) (t : Xf) (n k : ℕ) (hk : k = ord t) (hn : k < n) (rest : PG F) (Q : PUnit → sProp 𝕄) :
    Eng m K c n k ⊢ iprop((iprop(Eng m K c n (k + 1) ∗ got m c t) -∗ WP c rest Q) -∗ WP c (recvOp c t rest) Q) := by
  subst hk; exact wp_recvOp m K c t n hn rest Q

theorem Eng_cast {n n' k k' : ℕ} (c : Dev nD) (hn : n = n') (hk : k = k') : Eng m K c n k ⊢ Eng m K c n' k' := by subst hn hk; exact Entails.of_eq rfl

/-- The sums the last step leaves, of half `p`. -/
def last (c : Dev nD) (p : Fin 2) : sProp 𝕄 :=
  iprop(holds c (rSl false 14 p) fullShare (tot m c p false) ∗ holds c (rSl true 14 p) fullShare (tot m c p true))

/-- A step of the reduce-scatter but the last, -/
theorem wp_rsStep (c : Dev nD) (s : Fin 14) (k : PG F) (Q : PUnit → sProp 𝕄) :
    iprop(Eng m K c (4 * (s.val + 1)) (4 * s.val) ∗ ins m c)
      ⊢ iprop((iprop(Eng m K c (4 * (s.val + 1 + 1)) (4 * (s.val + 1)) ∗ ins m c) -∗ WP c k Q) -∗ WP c (rsStep c s k) Q) := by
  unfold rsStep
  iintro ⟨HE, Hin⟩ Hk
  iapply (wp_part m c s.castSucc _ Q) $$ Hin; iintro Hin
  iapply (wp_iter c (fun j => Eng m K c (4 * (s.val + 1) + 2 * j) (4 * s.val + 2 * j)) _ Q ?_ [0, 1] rfl k) $$ HE
  · intro p k
    have hs : 4 * (s.val + 1) + 2 * p.val = ord (.rs s.succ p false) := by simp only [ord, Fin.val_succ, Bool.toNat_false]; omega
    iintro HE Hk
    iapply (wp_acc m K c s.castSucc p false (4 * (s.val + 1) + 2 * p.val) (4 * s.val + 2 * p.val) rfl (by omega) _ Q) $$ HE; iintro ⟨HE, H⟩
    iapply (wp_send m K c (.rs s.succ p false) (4 * (s.val + 1) + 2 * p.val) (4 * s.val + 2 * p.val + 1) hs _ Q) $$ [HE H]
    · rw [hav_rs_succ]; isplitl [HE] <;> iassumption
    iintro HE
    iapply (wp_acc m K c s.castSucc p true (4 * (s.val + 1) + 2 * p.val + 1) (4 * s.val + 2 * p.val + 1) rfl (by omega) _ Q) $$ HE; iintro ⟨HE, H⟩
    iapply (wp_send m K c (.rs s.succ p true) (4 * (s.val + 1) + 2 * p.val + 1) (4 * s.val + 2 * p.val + 1 + 1) (congrArg (· + 1) hs) _ Q) $$ [HE H]
    · rw [hav_rs_succ]; isplitl [HE] <;> iassumption
    iintro HE
    iapply Hk
    iapply (Eng_cast m K c (by omega) (by omega)) $$ HE
  iintro HE
  iapply Hk
  isplitl [HE]; · (iapply (Eng_cast m K c (by omega) (by omega)) $$ HE)
  iexact Hin

/-- and the last. -/
theorem wp_rsLast (c : Dev nD) (k : PG F) (Q : PUnit → sProp 𝕄) :
    iprop(Eng m K c 60 56 ∗ ins m c)
      ⊢ iprop((iprop(Eng m K c 60 60 ∗ ins m c ∗ bigSep Finset.univ (last m c)) -∗ WP c k Q) -∗ WP c (rsLast c k) Q) := by
  unfold rsLast
  iintro ⟨HE, Hin⟩ Hk
  iapply (wp_part m c 14 _ Q) $$ Hin; iintro Hin
  iapply (wp_loop c (fun j => Eng m K c 60 (56 + 2 * j)) (fun _ => iprop(emp)) (last m c) _ Q ?_ [0, 1] rfl k) $$ [HE]
  · intro p k
    iintro ⟨HE, -⟩ Hk
    have hp := p.isLt
    iapply (wp_acc m K c 14 p false 60 (56 + 2 * p.val) rfl (by omega) _ Q) $$ HE; iintro ⟨HE, H⟩
    iapply (wp_acc m K c 14 p true 60 (56 + 2 * p.val + 1) rfl (by omega) _ Q) $$ HE; iintro ⟨HE, H'⟩
    iapply Hk
    isplitl [HE]; · (iapply (Eng_cast m K c rfl (by omega)) $$ HE)
    unfold last tot
    isplitl [H]; · iexact H
    iexact H'
  · isplitl [HE]; · iexact HE
    iapply (emps Finset.univ); iempintro
  iintro ⟨HE, H⟩
  iapply Hk
  isplitl [HE]; · iexact HE
  isplitl [Hin]; · iexact Hin
  iexact H

/-- The reduce-scatter. -/
theorem wp_rsPhase (c : Dev nD) (k : PG F) (Q : PUnit → sProp 𝕄) :
    iprop(Eng m K c 0 0 ∗ ins m c ∗ some' (F := F) c (iM false) ∗ some' (F := F) c (iM true))
      ⊢ iprop((iprop(Eng m K c 60 60 ∗ ins m c ∗ bigSep Finset.univ (last m c)) -∗ WP c k Q) -∗ WP c (rsPhase c k) Q) := by
  unfold rsPhase
  iintro ⟨HE, Hin, H0, H1⟩ Hk
  iapply (wp_init m c _ Q) $$ [Hin H0 H1]
  · isplitl [Hin]; · iexact Hin
    isplitl [H0] <;> iassumption
  iintro ⟨Hin, H0, H1⟩
  ihave H0 := (Entails.of_eq (iM_split c false fullShare (part0 m c false))) $$ H0
  ihave H1 := (Entails.of_eq (iM_split c true fullShare (part0 m c true))) $$ H1
  iapply (wp_loop c (fun j => Eng m K c (2 * j) 0) (fun p => iprop(hav m c (.rs 0 p false) ∗ hav m c (.rs 0 p true))) (fun _ => iprop(emp)) _ Q ?_ [0, 1] rfl _)
    $$ [HE H0 H1]
  · intro p k
    iintro ⟨HE, H, H'⟩ Hk
    iapply (wp_send m K c (.rs 0 p false) (2 * p.val) 0 (by simp only [ord, Fin.val_zero, Bool.toNat_false]; omega) _ Q) $$ [HE H]
    · isplitl [HE] <;> iassumption
    iintro HE
    iapply (wp_send m K c (.rs 0 p true) (2 * p.val + 1) 0 (by simp only [ord, Fin.val_zero, Bool.toNat_true]; omega) _ Q) $$ [HE H']
    · isplitl [HE] <;> iassumption
    iintro HE
    iapply Hk
    isplitl [HE]; · (iapply (Eng_cast m K c (by omega) rfl) $$ HE)
    iempintro
  · isplitl [HE]; · iexact HE
    rw [bs_sep]
    isplitl [H0]; · iexact H0
    iexact H1
  iintro ⟨HE, -⟩
  iapply (wp_iter c (fun j => iprop(Eng m K c (4 * (j + 1)) (4 * j) ∗ ins m c)) (rsStep c) Q (fun s k => wp_rsStep m K c s k Q) l14 rfl _) $$ [HE Hin]
  · isplitl [HE] <;> iassumption
  iintro ⟨HE, Hin⟩
  iapply (wp_rsLast m K c k Q) $$ [HE Hin]
  · isplitl [HE] <;> iassumption
  iexact Hk

end Cert.Ring
end
-- ==== Proof.Exchange.lean ====
/-
# The exchange with the partner, the all-gather, and the waits for the sends

The rows of the half a device does not finish go to its partner; it adds what the partner sent, applies the epilogue and
stores and sends the finished rows; then the finished chunks go around both rings.
-/
module

public import proofs.«01_k».proof.Proof.Scatter

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-! ## The finished rows -/

theorem half_half (h : Fin 2) : (1 : Fin 2) - (1 - h) = h := by revert h; decide

/-- Pieces at equal offsets are the same piece, and read the same. -/
theorem out_congr (c : Dev nD) (q : PosShare TreeShare) (X : Vec F S2048x2048 .f32) {o o' sz : Fin 2 → Nat} (h : o = o') (i : ∀ a, o a + sz a ≤ S2048x2048.size a)
    (i' : ∀ a, o' a + sz a ≤ S2048x2048.size a) :
    holds c (oM.slice (Rect.unit (s := S2048x2048) o sz i) (fun _ => rfl)) q ((oM.slice (Rect.unit (s := S2048x2048) o sz i) (fun _ => rfl)).view.read (Elt F) X)
      = holds c (oM.slice (Rect.unit (s := S2048x2048) o' sz i') (fun _ => rfl)) q ((oM.slice (Rect.unit (s := S2048x2048) o' sz i') (fun _ => rfl)).view.read (Elt F) X) := by
  subst h; rfl
theorem read_congr (X : Vec F S2048x2048 .f32) {o o' sz : Fin 2 → Nat} (h : o = o') (i : ∀ a, o a + sz a ≤ S2048x2048.size a)
    (i' : ∀ a, o' a + sz a ≤ S2048x2048.size a) :
    (oM.slice (Rect.unit (s := S2048x2048) o sz i) (fun _ => rfl)).view.read (Elt F) X
      = (oM.slice (Rect.unit (s := S2048x2048) o' sz i') (fun _ => rfl)).view.read (Elt F) X := by
  subst h; rfl

/-- What the result holds at a quarter of a block. -/
theorem G_fin (c : Dev nD) (p : Fin 4) (d : Bool) : (fSl c p d).view.read (Elt F) (G m) = fin m c p d := by
  refine (read_congr (G m) (fOff_eq c p d) _ (inb_o (own c d) (half c) p d)).trans ?_
  funext x
  show G m (oAt (own c d) (half c) p d x) = _
  obtain ⟨h0, h1⟩ := oSl_val (own c d) (half c) p d x
  have hx0 : (x 0).val < 16 := (x 0).isLt
  have hx1 : (x 1).val < 1024 := (x 1).isLt
  have hk := (own c d).isLt
  have hh := (half c).isLt
  have hp := p.isLt
  have e1 : chunkOf (oAt (own c d) (half c) p d x) = own c d := Fin.ext (by show (oAt _ _ _ _ x 0).val / 128 = _; rw [h0]; omega)
  have e2 : halfOf (oAt (own c d) (half c) p d x) = half c := Fin.ext (by show (oAt _ _ _ _ x 0).val / 64 % 2 = _; rw [h0]; omega)
  have e3 : rowOf (oAt (own c d) (half c) p d x) = p := Fin.ext (by show (oAt _ _ _ _ x 0).val / 16 % 4 = _; rw [h0]; omega)
  have e4 : dirOf (oAt (own c d) (half c) p d x) = d := by
    show decide (1024 ≤ (oAt _ _ _ _ x 1).val) = d
    rw [h1]
    cases d
    · exact decide_eq_false (by simp only [Bool.toNat_false]; omega)
    · exact decide_eq_true (by simp only [Bool.toNat_true]; omega)
  have e5 : inOf (oAt (own c d) (half c) p d x) = x := by
    refine ix2_ext ?_ ?_
    · show (oAt _ _ _ _ x 0).val % 16 = _; rw [h0]; omega
    · show (oAt _ _ _ _ x 1).val % 1024 = _; rw [h1]; cases d <;> simp only [Bool.toNat_false, Bool.toNat_true] <;> omega
  unfold G
  rw [e1, e2, e3, e4, e5, devAt_own]

/-- The rows of the last slot a device keeps, and the place of its finished rows; -/
def kept (c : Dev nD) (p : Fin 4) (d : Bool) : sProp 𝕄 := holds c (qSl d (half c) p) fullShare (row4 p (tot m c (half c) d))
/-- what finishing them leaves besides: the kept rows, the partner's rows, and half a share of the finished rows. -/
def done (c : Dev nD) (p : Fin 4) (d : Bool) : sProp 𝕄 :=
  iprop(kept m c p d ∗ got m c (.xx p d) ∗ holds c (fSl c p d) fullShare.right ((fSl c p d).view.read (Elt F) (G m)))

theorem hav_gg (c : Dev nD) (p : Fin 4) (d : Bool) :
    hav m c (.gg p d) = holds c (fSl c p d) fullShare.left ((fSl c p d).view.read (Elt F) (G m)) := rfl
theorem got_xx (c : Dev nD) (p : Fin 4) (d : Bool) :
    got m c (.xx p d) = holds c ((hM d).slice (hRect p) (fun _ => rfl)) fullShare (row4 p (tot m (partner c) (1 - half (partner c)) d)) := rfl
theorem o_some (c : Dev nD) (p : Fin 4) (d : Bool) :
    (some' (F := F) c (fSl c p d) : sProp 𝕄) = some' (F := F) c (oM.slice (oRect c p d) (fun _ => rfl)) :=
  congrArg (fun M : Memref sig .tc .vmem S16x1024 .f32 => (some' (F := F) c M : sProp 𝕄)) (oSl_eq c p d).symm
theorem fin_stored (c : Dev nD) (p : Fin 4) (d : Bool) :
    holds c (oM.slice (oRect c p d) (fun _ => rfl)) fullShare
      (k0_pay105 (shapeCast (kRect c p).shape (row4 p (tot m c (half c) d)) squeezes_S1x16x1024_S16x1024.numel_eq.symm) (row4 p (tot m (partner c) (1 - half (partner c)) d)))
      ⊢ holds c (fSl c p d) fullShare ((fSl c p d).view.read (Elt F) (G m)) := by
  have e : k0_pay105 (shapeCast (kRect c p).shape (row4 p (tot m c (half c) d)) squeezes_S1x16x1024_S16x1024.numel_eq.symm) (row4 p (tot m (partner c) (1 - half (partner c)) d)) = fin m c p d := by
    rw [half_partner, half_half]; unfold fin; rfl
  rw [e, G_fin]
  exact Entails.of_eq (congrArg (fun M : Memref sig .tc .vmem S16x1024 .f32 => holds c M fullShare (fin m c p d)) (oSl_eq c p d))

/-- Finishing rows `p` of a direction and sending them. -/
theorem wp_fin (c : Dev nD) (p : Fin 4) (d : Bool) (n k : ℕ) (hn : n = ord (.gg p d)) (hk : k = ord (.xx p d)) (rest : PG F) (Q : PUnit → sProp 𝕄) :
    iprop(Eng m K c n k ∗ kept m c p d ∗ some' (F := F) c (fSl c p d))
      ⊢ iprop((iprop(Eng m K c (n + 1) (k + 1) ∗ done m c p d) -∗ WP c rest Q) -∗ WP c (finOps c p d (sendOp c (.gg p d) rest)) Q) := by
  have hkn : k < n := by rw [hn, hk]; simp only [ord]; omega
  unfold finOps
  iintro ⟨HE, Hr, Ho⟩ Hk
  iapply (wp_recv m K c (.xx p d) n k hk hkn _ Q) $$ HE
  iintro ⟨HE, Hg⟩
  ihave Hr := (show kept m c p d ⊢ holds c (((rM d).slice (kRect c p) (fun _ => rfl)).squeeze S16x1024 squeezes_S1x16x1024_S16x1024) fullShare (row4 p (tot m c (half c) d))
    from Entails.of_eq (by unfold kept; rw [kSl_eq])) $$ Hr
  iapply (wp_load_sq c (rM d) (kRect c p) (fun _ => rfl) squeezes_S1x16x1024_S16x1024 _ _ _ _ Q) $$ Hr; iintro Hr
  ihave Hr := (show holds c (((rM d).slice (kRect c p) (fun _ => rfl)).squeeze S16x1024 squeezes_S1x16x1024_S16x1024) fullShare (row4 p (tot m c (half c) d)) ⊢ kept m c p d
    from Entails.of_eq (by unfold kept; rw [kSl_eq])) $$ Hr
  ihave Hg := (Entails.of_eq (got_xx m c p d)) $$ Hg
  iapply (wp_load_sl c (hM d) (hRect p) (fun _ => rfl) _ _ _ _ Q) $$ Hg; iintro Hg
  ihave Ho := (show some' (F := F) c (fSl c p d) ⊢ some' (F := F) c (oM.slice (oRect c p d) (fun _ => rfl)) from Entails.of_eq (o_some c p d)) $$ Ho
  icases Ho with ⟨%Y, Ho⟩
  iapply (wp_load_sl c oM (oRect c p d) (fun _ => rfl) _ _ _ _ Q) $$ Ho; iintro Ho
  iapply (wp_store_sl c oM (oRect c p d) (fun _ => rfl) _ _ _ _ Q) $$ [Ho]
  · iexists Y; iexact Ho
  iintro Ho
  ihave Ho := (fin_stored m c p d) $$ Ho
  ihave Ho := (Entails.of_eq (holds_share c (fSl c p d) _)) $$ Ho
  icases Ho with ⟨Hl, Hr'⟩
  ihave Hl := (Entails.of_eq (hav_gg m c p d).symm) $$ Hl
  iapply (wp_send m K c (.gg p d) n (k + 1) hn _ Q) $$ [HE Hl]
  · isplitl [HE]; · iexact HE
    iexact Hl
  iintro HE
  iapply Hk
  isplitl [HE]; · iexact HE
  unfold done
  isplitl [Hr]; · iexact Hr
  isplitl [Hg]; · (rw [got_xx]; iexact Hg)
  iexact Hr'

/-- Both directions at once. -/
def both (P : Bool → sProp 𝕄) : sProp 𝕄 := iprop(P false ∗ P true)

/-- The exchange with the partner. -/
theorem wp_xPhase (c : Dev nD) (k : PG F) (Q : PUnit → sProp 𝕄) :
    iprop(Eng m K c 60 60 ∗ (bigSep Finset.univ fun p => both fun d => hav m c (.xx p d))
        ∗ bigSep Finset.univ fun p => both fun d => iprop(kept m c p d ∗ some' (F := F) c (fSl c p d)))
      ⊢ iprop((iprop(Eng m K c 76 76 ∗ (bigSep Finset.univ fun p => both fun d => done m c p d)
          ∗ bigSep Finset.univ fun p => both fun d => got m c (.gg p d)) -∗ WP c k Q) -∗ WP c (xPhase c k) Q) := by
  unfold xPhase
  iintro ⟨HE, Hx, Hk⟩ HQ
  iapply (wp_loop c (fun j => Eng m K c (60 + 2 * j) 60) (fun p => both fun d => hav m c (.xx p d)) (fun _ => iprop(emp)) _ Q ?_ [0, 1, 2, 3] rfl _) $$ [HE Hx]
  · intro p k
    unfold both
    iintro ⟨HE, H, H'⟩ Hk
    iapply (wp_send m K c (.xx p false) (60 + 2 * p.val) 60 rfl _ Q) $$ [HE H]
    · isplitl [HE] <;> iassumption
    iintro HE
    iapply (wp_send m K c (.xx p true) (60 + 2 * p.val + 1) 60 rfl _ Q) $$ [HE H']
    · isplitl [HE] <;> iassumption
    iintro HE
    iapply Hk
    isplitl [HE]; · (iapply (Eng_cast m K c (by omega) rfl) $$ HE)
    iempintro
  · isplitl [HE] <;> iassumption
  iintro ⟨HE, -⟩
  iapply (wp_loop c (fun j => Eng m K c (68 + 2 * j) (60 + 2 * j)) (fun p => both fun d => iprop(kept m c p d ∗ some' (F := F) c (fSl c p d)))
    (fun p => both fun d => done m c p d) _ Q ?_ [0, 1, 2, 3] rfl _) $$ [HE Hk]
  · intro p k
    unfold both
    iintro ⟨HE, H, H'⟩ Hk
    iapply (wp_fin m K c p false (68 + 2 * p.val) (60 + 2 * p.val) rfl rfl _ Q) $$ [HE H]
    · isplitl [HE] <;> iassumption
    iintro ⟨HE, H⟩
    iapply (wp_fin m K c p true (68 + 2 * p.val + 1) (60 + 2 * p.val + 1) rfl rfl _ Q) $$ [HE H']
    · isplitl [HE] <;> iassumption
    iintro ⟨HE, H'⟩
    iapply Hk
    isplitl [HE]; · (iapply (Eng_cast m K c (by omega) (by omega)) $$ HE)
    isplitl [H] <;> iassumption
  · isplitl [HE] <;> iassumption
  iintro ⟨HE, Hd⟩
  iapply (wp_loop c (fun j => Eng m K c 76 (68 + 2 * j)) (fun _ => iprop(emp)) (fun p => both fun d => got m c (.gg p d)) _ Q ?_ [0, 1, 2, 3] rfl _) $$ [HE]
  · intro p k
    have hp := p.isLt
    unfold both
    iintro ⟨HE, -⟩ Hk
    iapply (wp_recv m K c (.gg p false) 76 (68 + 2 * p.val) rfl (by omega) _ Q) $$ HE
    iintro ⟨HE, H⟩
    iapply (wp_recv m K c (.gg p true) 76 (68 + 2 * p.val + 1) rfl (by omega) _ Q) $$ HE
    iintro ⟨HE, H'⟩
    iapply Hk
    isplitl [HE]; · (iapply (Eng_cast m K c rfl (by omega)) $$ HE)
    isplitl [H] <;> iassumption
  · isplitl [HE]; · iexact HE
    iapply (emps Finset.univ); iempintro
  iintro ⟨HE, Hg⟩
  iapply HQ
  isplitl [HE]; · iexact HE
  isplitl [Hd] <;> iassumption

/-! ## The all-gather -/

theorem agc_succ (c : Dev nD) (s : Fin 14) (d : Bool) : agc (prv c d) s.castSucc d = agc c s.succ d := by
  have h : ∀ (c : Dev nD) (s : Fin 14) (d : Bool), agc (prv c d) s.castSucc d = agc c s.succ d := by decide +kernel
  exact h c s d
theorem aOff_eq (c : Dev nD) (s : Fin 15) (p : Fin 2) (d : Bool) : aOff c s p d = ![128 * (agc c s d).val + 64 * p.val, 1024 * d.toNat] := by
  cases d
  · exact off10_eq c s p
  · exact off11_eq c s p

/-- Half a share of what arrived at step `s`. -/
def gotL (c : Dev nD) (s : Fin 15) (p : Fin 2) (d : Bool) : sProp 𝕄 :=
  holds c (aSl (prv c d) s p d) fullShare.left ((aSl (prv c d) s p d).view.read (Elt F) (G m))

/-- What arrives at a step is what is sent on at the next, and half a share kept. -/
theorem got_ag (c : Dev nD) (s : Fin 14) (p : Fin 2) (d : Bool) :
    got m c (.ag s.castSucc p d) = iprop(gotL m c s.castSucc p d ∗ hav m c (.ag s.succ p d)) := by
  show holds c (aSl (prv c d) s.castSucc p d) fullShare ((aSl (prv c d) s.castSucc p d).view.read (Elt F) (G m))
    = iprop(gotL m c s.castSucc p d ∗ holds c (aSl c s.succ p d) fullShare.right ((aSl c s.succ p d).view.read (Elt F) (G m)))
  rw [holds_share]
  unfold gotL
  refine congrArg (fun R => iprop(_ ∗ R)) (out_congr c fullShare.right (G m) ?_ _ _)
  rw [aOff_eq, aOff_eq, agc_succ]

/-- The all-gather. -/
theorem wp_agPhase (c : Dev nD) (k : PG F) (Q : PUnit → sProp 𝕄) :
    iprop(Eng m K c 76 76 ∗ bigSep Finset.univ fun p => both fun d => hav m c (.ag 0 p d))
      ⊢ iprop((iprop(Eng m K c 136 136 ∗ (bigSep Finset.univ fun s : Fin 14 => bigSep Finset.univ fun p => both fun d => gotL m c s.castSucc p d)
          ∗ bigSep Finset.univ fun p => both fun d => got m c (.ag 14 p d)) -∗ WP c k Q) -∗ WP c (agPhase c k) Q) := by
  unfold agPhase
  iintro ⟨HE, Hx⟩ HQ
  iapply (wp_loop c (fun j => Eng m K c (76 + 2 * j) 76) (fun p => both fun d => hav m c (.ag 0 p d)) (fun _ => iprop(emp)) _ Q ?_ [0, 1] rfl _) $$ [HE Hx]
  · intro p k
    unfold both
    iintro ⟨HE, H, H'⟩ Hk
    iapply (wp_send m K c (.ag 0 p false) (76 + 2 * p.val) 76 rfl _ Q) $$ [HE H]
    · isplitl [HE] <;> iassumption
    iintro HE
    iapply (wp_send m K c (.ag 0 p true) (76 + 2 * p.val + 1) 76 rfl _ Q) $$ [HE H']
    · isplitl [HE] <;> iassumption
    iintro HE
    iapply Hk
    isplitl [HE]; · (iapply (Eng_cast m K c (by omega) rfl) $$ HE)
    iempintro
  · isplitl [HE] <;> iassumption
  iintro ⟨HE, -⟩
  iapply (wp_loop c (fun j => Eng m K c (80 + 4 * j) (76 + 4 * j)) (fun _ => iprop(emp))
    (fun s : Fin 14 => bigSep Finset.univ fun p => both fun d => gotL m c s.castSucc p d) (agStep c) Q ?_ l14 rfl _) $$ [HE]
  · intro s k
    unfold agStep
    iintro ⟨HE, -⟩ Hk
    iapply (wp_loop c (fun j => Eng m K c (80 + 4 * s.val + 2 * j) (76 + 4 * s.val + 2 * j)) (fun _ => iprop(emp))
      (fun p => both fun d => gotL m c s.castSucc p d) _ Q ?_ [0, 1] rfl _) $$ [HE]
    · intro p k
      have hp := p.isLt
      have h0 : 80 + 4 * s.val + 2 * p.val = ord (.ag s.succ p false) := by simp only [ord, Fin.val_succ, Bool.toNat_false]; omega
      unfold both
      iintro ⟨HE, -⟩ Hk
      iapply (wp_recv m K c (.ag s.castSucc p false) (80 + 4 * s.val + 2 * p.val) (76 + 4 * s.val + 2 * p.val) rfl (by omega) _ Q) $$ HE
      iintro ⟨HE, H⟩
      iapply (wp_recv m K c (.ag s.castSucc p true) (80 + 4 * s.val + 2 * p.val) (76 + 4 * s.val + 2 * p.val + 1) rfl (by omega) _ Q) $$ HE
      iintro ⟨HE, H'⟩
      ihave H := (Entails.of_eq (got_ag m c s p false)) $$ H
      ihave H' := (Entails.of_eq (got_ag m c s p true)) $$ H'
      icases H with ⟨Hl, H⟩
      icases H' with ⟨Hl', H'⟩
      iapply (wp_send m K c (.ag s.succ p false) (80 + 4 * s.val + 2 * p.val) (76 + 4 * s.val + 2 * p.val + 1 + 1) h0 _ Q) $$ [HE H]
      · isplitl [HE] <;> iassumption
      iintro HE
      iapply (wp_send m K c (.ag s.succ p true) (80 + 4 * s.val + 2 * p.val + 1) (76 + 4 * s.val + 2 * p.val + 1 + 1) (congrArg (· + 1) h0) _ Q) $$ [HE H']
      · isplitl [HE] <;> iassumption
      iintro HE
      iapply Hk
      isplitl [HE]; · (iapply (Eng_cast m K c (by omega) (by omega)) $$ HE)
      isplitl [Hl] <;> iassumption
    · isplitl [HE]; · iexact HE
      iapply (emps Finset.univ); iempintro
    iintro ⟨HE, H⟩
    iapply Hk
    isplitl [HE]; · (iapply (Eng_cast m K c (by omega) (by omega)) $$ HE)
    iexact H
  · isplitl [HE]; · iexact HE
    iapply (emps Finset.univ); iempintro
  iintro ⟨HE, Hd⟩
  iapply (wp_loop c (fun j => Eng m K c 136 (132 + 2 * j)) (fun _ => iprop(emp)) (fun p => both fun d => got m c (.ag 14 p d)) _ Q ?_ [0, 1] rfl _) $$ [HE]
  · intro p k
    have hp := p.isLt
    unfold both
    iintro ⟨HE, -⟩ Hk
    iapply (wp_recv m K c (.ag 14 p false) 136 (132 + 2 * p.val) rfl (by omega) _ Q) $$ HE
    iintro ⟨HE, H⟩
    iapply (wp_recv m K c (.ag 14 p true) 136 (132 + 2 * p.val + 1) rfl (by omega) _ Q) $$ HE
    iintro ⟨HE, H'⟩
    iapply Hk
    isplitl [HE]; · (iapply (Eng_cast m K c rfl (by omega)) $$ HE)
    isplitl [H] <;> iassumption
  · isplitl [HE]; · iexact HE
    iapply (emps Finset.univ); iempintro
  iintro ⟨HE, Hg⟩
  iapply HQ
  isplitl [HE]; · iexact HE
  isplitl [Hd] <;> iassumption

/-! ## The waits for the sends -/

theorem Drn_cast {n n' : ℕ} (c : Dev nD) (hn : n = n') : Drn m K c n ⊢ Drn m K c n' := by subst hn; exact Entails.of_eq rfl
/-- The next wait for a send, at a place given by name. -/
theorem wp_done (c : Dev nD) (t : Xf) (n : ℕ) (hn : n = dord t) (rest : PG F) (Q : PUnit → sProp 𝕄) :
    Drn m K c n ⊢ iprop((Drn m K c (n + 1) -∗ WP c rest Q) -∗ WP c (doneOp c t rest) Q) := by
  subst hn; exact wp_doneOp m K c t rest Q
/-- A loop of such waits. -/
theorem wp_dones (c : Dev nD) {j : ℕ} (t : Fin j → Xf) (n : ℕ) (hn : ∀ i, n + i.val = dord (t i)) (l : List (Fin j)) (hl : l = List.finRange j)
    (rest : PG F) (Q : PUnit → sProp 𝕄) :
    Drn m K c n ⊢ iprop((Drn m K c (n + j) -∗ WP c rest Q) -∗ WP c (iter l (fun i k => doneOp c (t i) k) rest) Q) :=
  wp_iter c (fun i => Drn m K c (n + i)) (fun i k => doneOp c (t i) k) Q (fun i k => wp_done m K c (t i) (n + i.val) (hn i) k Q) l hl rest

theorem wp_drain (c : Dev nD) (k : PG F) (Q : PUnit → sProp 𝕄) :
    Drn m K c 0 ⊢ iprop((Drn m K c 136 -∗ WP c k Q) -∗ WP c (drain c k) Q) := by
  unfold drain
  iintro HD HQ
  iapply (wp_iter c (fun s => Drn m K c (4 * s)) _ Q ?_ l15 rfl _) $$ HD
  · intro s k
    iintro HD Hk
    iapply (wp_dones m K c (fun p : Fin 2 => .rs s p false) (4 * s.val) (fun _ => rfl) [0, 1] rfl _ Q) $$ HD; iintro HD
    iapply (wp_dones m K c (fun p : Fin 2 => .rs s p true) (4 * s.val + 2) (fun _ => rfl) [0, 1] rfl _ Q) $$ HD; iintro HD
    iapply Hk
    iapply (Drn_cast m K c (by omega)) $$ HD
  iintro HD
  iapply (wp_dones m K c (fun p : Fin 4 => .xx p false) 60 (fun _ => rfl) [0, 1, 2, 3] rfl _ Q) $$ HD; iintro HD
  iapply (wp_dones m K c (fun p : Fin 4 => .xx p true) 64 (fun _ => rfl) [0, 1, 2, 3] rfl _ Q) $$ HD; iintro HD
  iapply (wp_dones m K c (fun p : Fin 4 => .gg p false) 68 (fun _ => rfl) [0, 1, 2, 3] rfl _ Q) $$ HD; iintro HD
  iapply (wp_dones m K c (fun p : Fin 4 => .gg p true) 72 (fun _ => rfl) [0, 1, 2, 3] rfl _ Q) $$ HD; iintro HD
  iapply (wp_iter c (fun s => Drn m K c (76 + 4 * s)) _ Q ?_ l15 rfl _) $$ HD
  · intro s k
    iintro HD Hk
    iapply (wp_dones m K c (fun p : Fin 2 => .ag s p false) (76 + 4 * s.val) (fun _ => rfl) [0, 1] rfl _ Q) $$ HD; iintro HD
    iapply (wp_dones m K c (fun p : Fin 2 => .ag s p true) (76 + 4 * s.val + 2) (fun _ => rfl) [0, 1] rfl _ Q) $$ HD; iintro HD
    iapply Hk
    iapply (Drn_cast m K c (by omega)) $$ HD
  iexact HQ

end Cert.Ring
end
-- ==== Proof.Sets.lean ====
/-
# Regrouping the pieces

A conjunction over all copies, by what the copies are; a conjunction over the blocks of the result, by how a device meets
them: the block it finishes, its partner's block of the same chunk, and the chunks that arrive.
-/
module

public import proofs.«01_k».proof.Proof.Exchange

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Conjunctions over a product, an option, a sum -/

omit [FloatOps F] in
theorem comm2 (P Q : sProp 𝕄) : iprop(P ∗ Q) = iprop(Q ∗ P) :=
  eq_of (by iintro ⟨H, H'⟩; isplitl [H'] <;> iassumption) (by iintro ⟨H, H'⟩; isplitl [H'] <;> iassumption)
omit [FloatOps F] in
theorem bs_bool (Φ : Bool → sProp 𝕄) : bigSep Finset.univ Φ = both Φ :=
  bigSep_univ_eq_bigSepL [false, true] (by decide) (by decide) Φ
omit [FloatOps F] in
theorem both_sep (Φ Ψ : Bool → sProp 𝕄) : both (fun d => iprop(Φ d ∗ Ψ d)) = iprop(both Φ ∗ both Ψ) := by
  simp only [← bs_bool]; exact bs_sep _ _ _
omit [FloatOps F] in
theorem both_bs {I : Type} (S : Finset I) (Φ : I → Bool → sProp 𝕄) :
    bigSep S (fun i => both (Φ i)) = both fun d => bigSep S fun i => Φ i d := bs_sep S (fun i => Φ i false) (fun i => Φ i true)
omit [FloatOps F] in
theorem bs_option {I : Type} [Fintype I] [DecidableEq I] (Φ : Option I → sProp 𝕄) :
    bigSep Finset.univ Φ = iprop(Φ none ∗ bigSep Finset.univ fun i => Φ (some i)) := by
  have h : (Finset.univ : Finset (Option I)) = insert none (Finset.univ.map Function.Embedding.some) := by
    ext x; cases x <;> simp
  rw [h, bs_insert (by simp), bigSep_map]; rfl
omit [FloatOps F] in
theorem bs_first {n : ℕ} (Φ : Fin (n + 1) → sProp 𝕄) :
    bigSep Finset.univ Φ = iprop(Φ 0 ∗ bigSep Finset.univ fun i : Fin n => Φ i.succ) := by
  rw [bigSep_univ_equiv (finSuccEquiv n).symm Φ, bs_option]; rfl
omit [FloatOps F] in
theorem bs_last {n : ℕ} (Φ : Fin (n + 1) → sProp 𝕄) :
    bigSep Finset.univ Φ = iprop((bigSep Finset.univ fun i : Fin n => Φ i.castSucc) ∗ Φ (Fin.last n)) := by
  rw [bigSep_univ_equiv finSuccEquivLast.symm Φ, bs_option]
  simp only [finSuccEquivLast_symm_none, finSuccEquivLast_symm_some]
  exact comm2 _ _
omit [FloatOps F] in
/-- A half and the other. -/
theorem bs_half (h : Fin 2) (Φ : Fin 2 → sProp 𝕄) : bigSep Finset.univ Φ = iprop(Φ h ∗ Φ (1 - h)) := by
  rw [bigSep_univ_two]
  obtain rfl | rfl : h = 0 ∨ h = 1 := by revert h; decide
  · rfl
  · exact comm2 _ _

omit [FloatOps F] in
/-- A conjunction over all copies. -/
theorem xf_split (Φ : Xf → sProp 𝕄) : bigSep Finset.univ Φ
    = iprop((bigSep Finset.univ fun s => bigSep Finset.univ fun p => both fun d => Φ (.rs s p d))
      ∗ (bigSep Finset.univ fun p => both fun d => Φ (.xx p d)) ∗ (bigSep Finset.univ fun p => both fun d => Φ (.gg p d))
      ∗ bigSep Finset.univ fun s => bigSep Finset.univ fun p => both fun d => Φ (.ag s p d)) := by
  simp only [← bs_bool]
  rw [bigSep_univ_equiv xfEquiv Φ, bigSep_univ_sum, bigSep_univ_sum, bigSep_univ_sum, bigSep_univ_prod, bigSep_univ_prod, bigSep_univ_prod, bigSep_univ_prod]
  simp only [bigSep_univ_prod]
  rfl

omit [FloatOps F] in
/-- A conjunction over all copies, by whom their places belong to. -/
theorem kind_split (Φ : Xf → sProp 𝕄) : bigSep Finset.univ Φ
    = iprop(bigSep (Finset.univ.filter fun t => kind t = 0) Φ ∗ bigSep (Finset.univ.filter fun t => kind t = 1) Φ ∗ bigSep (Finset.univ.filter fun t => kind t = 2) Φ) := by
  have h : (Finset.univ : Finset Xf) = (Finset.univ.filter fun t => kind t = 0) ∪ ((Finset.univ.filter fun t => kind t = 1) ∪ (Finset.univ.filter fun t => kind t = 2)) := by
    ext t
    simp only [Finset.mem_univ, Finset.mem_union, Finset.mem_filter, true_and, true_iff]
    generalize kind t = k
    fin_cases k <;> simp
  conv_lhs => rw [h]
  rw [bigSep_union (Finset.disjoint_left.mpr fun t h1 h2 => by
      simp only [Finset.mem_union, Finset.mem_filter, Finset.mem_univ, true_and] at h1 h2
      rw [h1] at h2; rcases h2 with h2 | h2 <;> exact absurd h2 (by decide)),
    bigSep_union (Finset.disjoint_left.mpr fun t h1 h2 => by
      simp only [Finset.mem_filter, Finset.mem_univ, true_and] at h1 h2
      rw [h1] at h2; exact absurd h2 (by decide))]
  rfl

theorem frm_kind (c : Dev nD) (t : Xf) : frm c t = match kind t with | 0 => left c | 1 => right c | 2 => partner c := by
  rcases t with ⟨s, p, _ | _⟩ | ⟨p, d⟩ | ⟨p, d⟩ | ⟨s, p, _ | _⟩ <;> rfl

/-! ## The blocks of the result -/

theorem own_partner (c : Dev nD) (d : Bool) : own (partner c) d = own c d := by
  have h : ∀ (c : Dev nD) (d : Bool), own (partner c) d = own c d := by decide +kernel
  exact h c d
theorem agc_zero (c : Dev nD) (d : Bool) : agc c 0 d = own c d := by
  have h : ∀ (c : Dev nD) (d : Bool), agc c 0 d = own c d := by decide +kernel
  exact h c d
/-- The chunks as a device meets them: its own, then those that arrive. -/
def met (c : Dev nD) (d : Bool) : Option (Fin 15) → Fin 16
  | none => own c d
  | some s => agc (prv c d) s d
theorem met_inj (c : Dev nD) (d : Bool) : Function.Injective (met c d) := by
  have h : ∀ (c : Dev nD) (d : Bool) (a b : Option (Fin 15)), met c d a = met c d b → a = b := by decide +kernel
  exact fun a b => h c d a b
def metEquiv (c : Dev nD) (d : Bool) : Option (Fin 15) ≃ Fin 16 :=
  Equiv.ofBijective (met c d) ((Fintype.bijective_iff_injective_and_card _).mpr ⟨met_inj c d, by simp⟩)

omit [FloatOps F] in
/-- Both halves of a device's own chunk, in quarters. -/
theorem block (c : Dev nD) (Ψ : Fin 16 → Fin 2 → Bool → sProp 𝕄) (Ω : Fin 16 → Fin 2 → Fin 4 → Bool → sProp 𝕄)
    (h : ∀ k h d, Ψ k h d = bigSep Finset.univ fun p => Ω k h p d) :
    (bigSep Finset.univ fun h => both fun d => Ψ (own c d) h d)
      = iprop((bigSep Finset.univ fun p => both fun d => Ω (own c d) (half c) p d) ∗ bigSep Finset.univ fun p => both fun d => Ω (own c d) (1 - half c) p d) := by
  rw [bs_half (half c), both_bs, both_bs]
  simp only [h]

omit [FloatOps F] in
theorem sheet (c : Dev nD) (Ψ : Fin 16 → Fin 2 → Bool → sProp 𝕄) (Ω : Fin 16 → Fin 2 → Fin 4 → Bool → sProp 𝕄)
    (h : ∀ k h d, Ψ k h d = bigSep Finset.univ fun p => Ω k h p d) :
    (bigSep Finset.univ fun k : Fin 16 × Fin 2 × Bool => Ψ k.1 k.2.1 k.2.2)
      = iprop(((bigSep Finset.univ fun p => both fun d => Ω (own c d) (half c) p d) ∗ bigSep Finset.univ fun p => both fun d => Ω (own c d) (1 - half c) p d)
        ∗ bigSep Finset.univ fun s => bigSep Finset.univ fun h => both fun d => Ψ (agc (prv c d) s d) h d) := by
  rw [← block c Ψ Ω h, bigSep_univ_prod]
  simp only [bigSep_univ_prod, bs_bool]
  simp only [both_bs]
  rw [← both_sep]
  refine congrArg both (funext fun d => ?_)
  rw [bigSep_univ_equiv (metEquiv c d), bs_option]
  rfl

end Cert.Ring
end
-- ==== Proof.Body.lean ====
/-
# The body

The greeting at the barrier, the memory cut into what the phases move, the phases one after the other, and the memory put
together again.
-/
module

public import proofs.«01_k».proof.Proof.Sets

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-! ## The greeting -/

omit [FloatOps F] in
theorem pay_intro (c e : Dev nD) (k : Fin 3) (he : ∀ t, kind t = k → frm c t = e) :
    bigSep (Finset.univ.filter fun t => kind t = k) (mine (F := F) c) ⊢ barPay (F := F) e k := by
  unfold barPay
  refine bs_mono fun t ht => Entails.of_eq ?_
  rw [← he t (Finset.mem_filter.mp ht).2, land_frm]

omit [FloatOps F] in
theorem pays_elim (c : Dev nD) : bigSep Finset.univ (barPay (F := F) c) ⊢ bigSep Finset.univ (land (F := F) c) := by
  rw [kind_split, bigSep_univ_eq_bigSepL [0, 1, 2] (by decide) (by decide)]
  exact Entails.of_eq rfl

theorem mem_bar (e : Dev nD) (k : Fin 3) : k ∈ (rd (F := F) m).duties (bcell e) 0 := by rw [duties_bar]; exact Finset.mem_univ _
theorem pay_intro' (c e : Dev nD) (k : Fin 3) (he : ∀ t, kind t = k → frm c t = e) :
    bigSep (Finset.univ.filter fun t => kind t = k) (mine (F := F) c) ⊢ (rd (F := F) m).payload ((e : Thread nD τ), .reg barS) 0 k :=
  (pay_intro c e k he).trans (Entails.of_eq (payload_bar m e k).symm)
theorem rest_bar' (c : Dev nD) :
    (bigSep ((rd (F := F) m).duties ((c : Thread nD τ), .reg barS) 0 \ ∅) fun k => (rd (F := F) m).payload ((c : Thread nD τ), .reg barS) 0 k)
      ⊢ bigSep Finset.univ (barPay (F := F) c) := Entails.of_eq (rest_bar m c)

/-- What the greeting takes of the protocol. -/
def gres (c : Dev nD) : sProp 𝕄 :=
  iprop(dutyTok ER (bcell (left c)) 0 0 ∗ dutyTok ER (bcell (right c)) 0 1 ∗ dutyTok ER (bcell (partner c)) 0 2
    ∗ cred (tallyAt (bcell c) () 3) ∗ atPos ER (bcell c) 0 ∅ 0)

theorem wp_greet (c : Dev nD) (W : Waits sig Unit) (k : PG F) (Q : PUnit → sProp 𝕄) :
    iprop(records m K ∗ levAts L lv ∗ owes (c : Thread nD τ) (O₀ c) W ∗ gres (F := F) c ∗ bigSep Finset.univ (mine (F := F) c))
      ⊢ iprop((iprop((∃ W', owes (c : Thread nD τ) (O 0 c) W') ∗ semVal (bcell c) 0 ∗ bigSep Finset.univ (land (F := F) c)) -∗ WP c k Q) -∗ WP c (greet c k) Q) := by
  rw [kind_split]
  unfold greet gres
  iintro ⟨#HR, #Hlev, HO, ⟨Ht0, Ht1, Ht2, Hc, Hat⟩, Hm0, Hm1, Hm2⟩ Hk
  iapply (Rounds.wp_signal 𝒱₀ ER (rd m) (c : Thread nD τ) none (dst := (left c : Thread nD τ)) (κ := K (left c, none))
      (d := 0) (mem_bar m (left c) 0) (amount_bar m (left c) 0) ()
      ((O 0 c + tallyAt (bcell (partner c)) () 1) + tallyAt (bcell (right c)) () 1) rfl) $$ [HO Ht0 Hm0]
  · isplitr; · iapply (records_inv m K (left c, none)); iexact HR
    isplitl [HO]; · iexact HO
    isplitl [Ht0]; · iexact Ht0
    isplitl [Hm0]
    · iapply (pay_intro' m c (left c) 0 (fun t ht => by rw [frm_kind, ht])) $$ Hm0
    iapply (records_reached m K (left c, none)); iexact HR
  iintro HO
  iapply (Rounds.wp_signal 𝒱₀ ER (rd m) (c : Thread nD τ) none (dst := (right c : Thread nD τ)) (κ := K (right c, none))
      (d := 1) (mem_bar m (right c) 1) (amount_bar m (right c) 1) ()
      (O 0 c + tallyAt (bcell (partner c)) () 1) rfl) $$ [HO Ht1 Hm1]
  · isplitr; · iapply (records_inv m K (right c, none)); iexact HR
    isplitl [HO]; · iexact HO
    isplitl [Ht1]; · iexact Ht1
    isplitl [Hm1]
    · iapply (pay_intro' m c (right c) 1 (fun t ht => by rw [frm_kind, ht])) $$ Hm1
    iapply (records_reached m K (right c, none)); iexact HR
  iintro HO
  iapply (Rounds.wp_signal 𝒱₀ ER (rd m) (c : Thread nD τ) none (dst := (partner c : Thread nD τ)) (κ := K (partner c, none))
      (d := 2) (mem_bar m (partner c) 2) (amount_bar m (partner c) 2) ()
      (O 0 c) rfl) $$ [HO Ht2 Hm2]
  · isplitr; · iapply (records_inv m K (partner c, none)); iexact HR
    isplitl [HO]; · iexact HO
    isplitl [Ht2]; · iexact Ht2
    isplitl [Hm2]
    · iapply (pay_intro' m c (partner c) 2 (fun t ht => by rw [frm_kind, ht])) $$ Hm2
    iapply (records_reached m K (partner c, none)); iexact HR
  iintro HO
  iapply (Rounds.wp_wait_rest_token 𝒱₀ ER (rd m) (c : Thread nD τ) none (κ := K (c, none))
      (wpE_semWait_eq 𝒱₀ (c : Thread nD τ) none Set.univ) (Set.mem_univ _) () (O := O 0 c) (W := W) (R := 0) (m := 0) (T := ∅)
      (by rw [Nat.zero_add]; exact (expect_bar m c).symm)) $$ [Hc HO Hat]
  · isplitr; · iapply (records_inv m K (c, none)); iexact HR
    isplitl [Hc]; · iexact Hc
    isplitl [HO]; · iexact HO
    isplitr; · iapply (mayWait_bar c); iexact Hlev
    iexact Hat
  iintro ⟨HO, Hat, -, Hpay⟩
  ihave Hp := (rest_bar' m c) $$ Hpay
  imod (Rounds.cell_close ER (rd m) (Set.mem_univ (K (c, none))) (fun h => h) (R := 0 + 1) (duties_later m (bcell c))) $$ [Hat] with Hz
  · isplitr; · iapply (records_inv m K (c, none)); iexact HR
    iexact Hat
  iapply Hk
  isplitl [HO]; · iexists _; iexact HO
  isplitl [Hz]; · iexact Hz
  iapply (pays_elim c) $$ Hp

/-! ## The protocol's resources, before, between and after -/

theorem Eng_intro (c : Dev nD) :
    iprop(records m K ∗ levAts L lv ∗ (∃ W, owes (c : Thread nD τ) (O 0 c) W)
      ∗ (bigSep Finset.univ fun t => dutyTok ER (scell c t) 0 0) ∗ (bigSep Finset.univ fun t => dutyTok ER (rcell (tgt c t) t) 0 0)
      ∗ bigSep Finset.univ (land (F := F) c)
      ∗ (bigSep Finset.univ fun t => atPos ER (rcell c t) 0 ∅ 0) ∗ bigSep Finset.univ fun t => cred (tallyAt (rcell c t) () (cr t)))
      ⊢ Eng m K c 0 0 := by
  unfold Eng sres rres
  rw [from_0, upto_0, bs_sep, bs_sep, bs_sep, bigSep_empty, bigSep_empty]
  iintro ⟨HR, Hlev, HO, Hs, Hr, Hl, Ha, Hc⟩
  isplitl [HR]; · iexact HR
  isplitl [Hlev]; · iexact Hlev
  isplitl [HO]; · iexact HO
  isplitl [Hs Hr Hl]
  · isplitl [Hs]; · iexact Hs
    isplitl [Hr] <;> iassumption
  isplitr; · iempintro
  isplitl [Ha Hc]
  · isplitl [Ha] <;> iassumption
  iempintro

theorem Drn_intro (c : Dev nD) :
    iprop(Eng m K c 136 136 ∗ bigSep Finset.univ fun t => atPos ER (scell c t) 0 ∅ 0)
      ⊢ iprop(Drn m K c 0 ∗ bigSep Finset.univ fun t => semVal (rcell c t) 0) := by
  unfold Eng Drn
  rw [from_136, upto_136, dfrom_0, dupto_0, bigSep_empty, bigSep_empty, bigSep_empty, bs_sep, O_136]
  iintro ⟨⟨HR, -, HO, -, Hc, -, Hz⟩, Ha⟩
  isplitr [Hz]
  · isplitl [HR]; · iexact HR
    isplitl [HO]; · iexact HO
    isplitl [Ha Hc]
    · isplitl [Ha] <;> iassumption
    iempintro
  iexact Hz

theorem Drn_elim (c : Dev nD) :
    Drn m K c 136 ⊢ iprop((∃ W, owes (c : Thread nD τ) 0 W) ∗ bigSep Finset.univ (hav m c) ∗ bigSep Finset.univ fun t => semVal (scell c t) 0) := by
  unfold Drn
  rw [dupto_136, bs_sep Finset.univ (hav m c) fun t => semVal (scell c t) 0]
  iintro ⟨-, HO, -, Hh, Hz⟩
  isplitl [HO]; · iexact HO
  isplitl [Hh] <;> iassumption

/-! ## What the pieces are, by name -/

/-- A block of the result, and a quarter of one, at a share, finished. -/
def BB (c : Dev nD) (q : PosShare TreeShare) (k : Fin 16) (h : Fin 2) (d : Bool) : sProp 𝕄 := holds c (bSl k h d) q ((bSl k h d).view.read (Elt F) (G m))
def QQ (c : Dev nD) (q : PosShare TreeShare) (k : Fin 16) (h : Fin 2) (p : Fin 4) (d : Bool) : sProp 𝕄 :=
  holds c (oSl k h p d) q ((oSl k h p d).view.read (Elt F) (G m))

theorem BB_split (c : Dev nD) (q : PosShare TreeShare) (k : Fin 16) (h : Fin 2) (d : Bool) :
    BB m c q k h d = bigSep Finset.univ fun p => QQ m c q k h p d := bSl_split c k h d q (G m)
theorem QQ_share (c : Dev nD) (k : Fin 16) (h : Fin 2) (p : Fin 4) (d : Bool) :
    QQ m c fullShare k h p d = iprop(QQ m c fullShare.left k h p d ∗ QQ m c fullShare.right k h p d) := holds_share c _ _
theorem BB_share (c : Dev nD) (k : Fin 16) (h : Fin 2) (d : Bool) :
    BB m c fullShare k h d = iprop(BB m c fullShare.left k h d ∗ BB m c fullShare.right k h d) := holds_share c _ _
theorem fSl_QQ (c e : Dev nD) (q : PosShare TreeShare) (p : Fin 4) (d : Bool) :
    holds c (fSl e p d) q ((fSl e p d).view.read (Elt F) (G m)) = QQ m c q (own e d) (half e) p d := out_congr c q (G m) (fOff_eq e p d) _ _
theorem aSl_BB (c e : Dev nD) (q : PosShare TreeShare) (s : Fin 15) (p : Fin 2) (d : Bool) :
    holds c (aSl e s p d) q ((aSl e s p d).view.read (Elt F) (G m)) = BB m c q (agc e s d) p d := out_congr c q (G m) (aOff_eq e s p d) _ _

theorem hav_gg' (c : Dev nD) (p : Fin 4) (d : Bool) : hav m c (.gg p d) = QQ m c fullShare.left (own c d) (half c) p d := fSl_QQ m c c _ p d
theorem got_gg (c : Dev nD) (p : Fin 4) (d : Bool) : got m c (.gg p d) = QQ m c fullShare (own c d) (1 - half c) p d :=
  (fSl_QQ m c (partner c) _ p d).trans (by rw [own_partner, half_partner])
theorem hav_ag (c : Dev nD) (s : Fin 15) (p : Fin 2) (d : Bool) : hav m c (.ag s p d) = BB m c fullShare.right (agc c s d) p d := aSl_BB m c c _ s p d
theorem got_ag' (c : Dev nD) (s : Fin 15) (p : Fin 2) (d : Bool) : got m c (.ag s p d) = BB m c fullShare (agc (prv c d) s d) p d := aSl_BB m c (prv c d) _ s p d
theorem hav_xx (c : Dev nD) (p : Fin 4) (d : Bool) :
    hav m c (.xx p d) = holds c (qSl d (1 - half c) p) fullShare (row4 p (tot m c (1 - half c) d)) :=
  congrArg (fun M : Memref sig .tc .vmem S16x1024 .f32 => holds c M fullShare (row4 p (tot m c (1 - half c) d))) (gSl_eq c p d)
omit [FloatOps F] in
theorem mine_rs (c : Dev nD) (s : Fin 15) (p : Fin 2) (d : Bool) : mine (F := F) c (.rs s p d) = some' (F := F) c (rSl d s p) := rfl
omit [FloatOps F] in
theorem mine_xx (c : Dev nD) (p : Fin 4) (d : Bool) : mine (F := F) c (.xx p d) = some' (F := F) c (hSl d p) := rfl
omit [FloatOps F] in
theorem mine_gg (c : Dev nD) (p : Fin 4) (d : Bool) : mine (F := F) c (.gg p d) = some' (F := F) c (oSl (own c d) (1 - half c) p d) :=
  (congrArg (fun M : Memref sig .tc .vmem S16x1024 .f32 => (some' (F := F) c M : sProp 𝕄)) (fSl_eq (partner c) p d)).trans (by rw [own_partner, half_partner])
omit [FloatOps F] in
theorem mine_ag (c : Dev nD) (s : Fin 15) (p : Fin 2) (d : Bool) : mine (F := F) c (.ag s p d) = some' (F := F) c (bSl (agc (prv c d) s d) p d) :=
  congrArg (fun M : Memref sig .tc .vmem S64x1024 .f32 => (some' (F := F) c M : sProp 𝕄)) (aSl_eq (prv c d) s p d)
omit [FloatOps F] in
theorem some_fSl (c : Dev nD) (p : Fin 4) (d : Bool) : (some' (F := F) c (fSl c p d) : sProp 𝕄) = some' (F := F) c (oSl (own c d) (half c) p d) :=
  congrArg (fun M : Memref sig .tc .vmem S16x1024 .f32 => (some' (F := F) c M : sProp 𝕄)) (fSl_eq c p d)

/-! ## The memory cut, and put together -/

omit [FloatOps F] in
theorem both_mono {P R : Bool → sProp 𝕄} (h : ∀ d, P d ⊢ R d) : both P ⊢ both R := by
  unfold both
  iintro ⟨H, H'⟩
  isplitl [H]; · (iapply (h false) $$ H)
  iapply (h true) $$ H'

/-- The ring buffers, in halves of slots. -/
theorem rM_all (c : Dev nD) : (both fun d => some' (F := F) c (rM d)) = bigSep Finset.univ fun s => bigSep Finset.univ fun p => both fun d => some' (F := F) c (rSl d s p) := by
  simp only [both_bs]
  refine congrArg both (funext fun d => ?_)
  rw [rM_split, bigSep_univ_prod]
theorem hM_all (c : Dev nD) : (both fun d => some' (F := F) c (hM d)) = bigSep Finset.univ fun p => both fun d => some' (F := F) c (hSl d p) := by
  rw [both_bs]
  exact congrArg both (funext fun d => hM_split c d)
theorem oM_all (c : Dev nD) : (some' (F := F) c oM : sProp 𝕄)
    = iprop(((bigSep Finset.univ fun p => both fun d => some' (F := F) c (fSl c p d)) ∗ bigSep Finset.univ fun p => both fun d => mine (F := F) c (.gg p d))
      ∗ bigSep Finset.univ fun s => bigSep Finset.univ fun h => both fun d => mine (F := F) c (.ag s h d)) := by
  simp only [mine_gg, mine_ag, some_fSl]
  rw [oM_split_ex]
  exact sheet c (fun k h d => some' (F := F) c (bSl k h d)) (fun k h p d => some' (F := F) c (oSl k h p d)) (fun k h d => bSl_split_ex c k h d)

theorem mem_open (c : Dev nD) :
    iprop((both fun d => some' (F := F) c (rM d)) ∗ (both fun d => some' (F := F) c (hM d)) ∗ some' (F := F) c oM)
      ⊢ iprop(bigSep Finset.univ (mine (F := F) c) ∗ bigSep Finset.univ fun p => both fun d => some' (F := F) c (fSl c p d)) := by
  rw [xf_split, rM_all, hM_all, oM_all]
  simp only [mine_rs, mine_xx]
  iintro ⟨Hr, Hh, ⟨Hf, Hg⟩, Ha⟩
  isplitr [Hf]
  · isplitl [Hr]; · iexact Hr
    isplitl [Hh]; · iexact Hh
    isplitl [Hg] <;> iassumption
  iexact Hf

/-- The last slots, in quarters: the rows for the partner, and the rows kept. -/
theorem last_open (c : Dev nD) :
    bigSep Finset.univ (last m c) ⊢ iprop((bigSep Finset.univ fun p => both fun d => hav m c (.xx p d)) ∗ bigSep Finset.univ fun p => both fun d => kept m c p d) := by
  have e : ∀ h, last m c h = bigSep Finset.univ fun p => both fun d => holds c (qSl d h p) fullShare (row4 p (tot m c h d)) := fun h => by
    rw [both_bs]
    unfold last both
    rw [rS_split, rS_split]
  rw [bs_half (half c), e, e]
  simp only [hav_xx]
  unfold kept
  iintro ⟨H, H'⟩
  isplitl [H'] <;> iassumption

/-- The finished quarters make the blocks sent first around the rings. -/
theorem ag_first (c : Dev nD) :
    iprop((bigSep Finset.univ fun p => both fun d => QQ m c fullShare.right (own c d) (half c) p d)
        ∗ bigSep Finset.univ fun p => both fun d => QQ m c fullShare.right (own c d) (1 - half c) p d)
      = bigSep Finset.univ fun p => both fun d => hav m c (.ag 0 p d) := by
  simp only [hav_ag, agc_zero]
  exact (block c (BB m c fullShare.right) (QQ m c fullShare.right) (BB_split m c _)).symm

/-- The result, from what the last phases leave. -/
theorem out_close (c : Dev nD) :
    iprop((bigSep Finset.univ fun p => both fun d => QQ m c fullShare (own c d) (half c) p d)
        ∗ (bigSep Finset.univ fun p => both fun d => QQ m c fullShare (own c d) (1 - half c) p d)
        ∗ bigSep Finset.univ fun s => bigSep Finset.univ fun h => both fun d => got m c (.ag s h d)) ⊢ holds c oM fullShare (G m) := by
  simp only [got_ag']
  rw [oM_split]
  have e := sheet c (BB m c fullShare) (QQ m c fullShare) (BB_split m c _)
  iintro ⟨H1, H2, H3⟩
  iapply (Entails.of_eq e.symm)
  isplitr [H3]
  · isplitl [H1] <;> iassumption
  iexact H3

omit [FloatOps F] in
theorem forget (c : Dev nD) {sh : Shape} (M : Memref sig .tc .vmem sh .f32) (X : Vec F sh .f32) : holds c M fullShare X ⊢ some' (F := F) c M := by
  iintro H; iexists X; iexact H

/-- The sent pieces and the kept ones make the scratch buffers again. -/
theorem rs_close (c : Dev nD) :
    iprop((bigSep Finset.univ fun s => bigSep Finset.univ fun p => both fun d => hav m c (.rs s p d))
        ∗ (bigSep Finset.univ fun p => both fun d => hav m c (.xx p d)) ∗ bigSep Finset.univ fun p => both fun d => kept m c p d)
      ⊢ iprop((both fun d => some' (F := F) c (iM d)) ∗ both fun d => some' (F := F) c (rM d)) := by
  rw [bs_first fun s => bigSep Finset.univ fun p => both fun d => hav m c (.rs s p d), rM_all,
    bs_last fun s => bigSep Finset.univ fun p => both fun d => some' (F := F) c (rSl d s p), bs_half (half c) fun p => both fun d => some' (F := F) c (rSl d (Fin.last 14) p)]
  have h0 : (bigSep Finset.univ fun p => both fun d => hav m c (.rs 0 p d)) ⊢ both fun d => some' (F := F) c (iM d) := by
    rw [both_bs]
    exact both_mono fun d => (Entails.of_eq (iM_split c d fullShare (part0 m c d)).symm).trans (forget c _ _)
  have h1 : (bigSep Finset.univ fun s : Fin 14 => bigSep Finset.univ fun p => both fun d => hav m c (.rs s.succ p d))
      ⊢ bigSep Finset.univ fun s : Fin 14 => bigSep Finset.univ fun p => both fun d => some' (F := F) c (rSl d s.castSucc p) :=
    bs_mono fun s _ => bs_mono fun p _ => both_mono fun d => by rw [hav_rs_succ]; exact forget c _ _
  have hq : ∀ h : Fin 2, (both fun d => some' (F := F) c (rSl d (Fin.last 14) h)) = bigSep Finset.univ fun p => both fun d => some' (F := F) c (qSl d h p) := fun h => by
    rw [both_bs]
    exact congrArg both (funext fun d => rS_split_ex c d h)
  rw [hq, hq]
  simp only [hav_xx]
  unfold kept
  iintro ⟨⟨H0, H1⟩, Hx, Hk⟩
  isplitl [H0]; · (iapply h0 $$ H0)
  isplitl [H1]; · (iapply h1 $$ H1)
  isplitl [Hk]
  · iapply (bs_mono fun p _ => both_mono fun d => forget c (qSl d (half c) p) (row4 p (tot m c (half c) d))) $$ Hk
  · iapply (bs_mono fun p _ => both_mono fun d => forget c (qSl d (1 - half c) p) (row4 p (tot m c (1 - half c) d))) $$ Hx
theorem hM_close (c : Dev nD) : (bigSep Finset.univ fun p => both fun d => got m c (.xx p d)) ⊢ both fun d => some' (F := F) c (hM d) := by
  rw [hM_all]
  exact bs_mono fun p _ => both_mono fun d => forget c _ _

/-! ## The body -/

/-- What the body takes of the protocol, the wait-for records and levels aside; -/
def pres (c : Dev nD) : sProp 𝕄 :=
  iprop(gres (F := F) c
    ∗ (bigSep Finset.univ fun t => dutyTok ER (scell c t) 0 0) ∗ (bigSep Finset.univ fun t => dutyTok ER (rcell (tgt c t) t) 0 0)
    ∗ (bigSep Finset.univ fun t => atPos ER (rcell c t) 0 ∅ 0) ∗ (bigSep Finset.univ fun t => cred (tallyAt (rcell c t) () (cr t)))
    ∗ bigSep Finset.univ fun t => atPos ER (scell c t) 0 ∅ 0)
/-- the scratch memory; -/
def scr (c : Dev nD) : sProp 𝕄 :=
  iprop((both fun d => some' (F := F) c (iM d)) ∗ (both fun d => some' (F := F) c (rM d)) ∗ both fun d => some' (F := F) c (hM d))
/-- and the counters it leaves at zero. -/
def zeros (c : Dev nD) : sProp 𝕄 :=
  iprop(semVal (bcell c) 0 ∗ (bigSep Finset.univ fun t => semVal (scell c t) 0) ∗ bigSep Finset.univ fun t => semVal (rcell c t) 0)

theorem ret_intro (c : Dev nD) (Q : PUnit → sProp 𝕄) : Q ⟨⟩ ⊢ WP c (.ret ⟨⟩) Q := by
  simp only [WP, wp_ret]
  iintro H; imodintro; iexact H

theorem wp_prog (c : Dev nD) (W : Waits sig Unit) (Q : PUnit → sProp 𝕄) :
    iprop(records m K ∗ levAts L lv ∗ owes (c : Thread nD τ) (O₀ c) W ∗ pres (F := F) c ∗ scr (F := F) c ∗ ins m c ∗ some' (F := F) c oM)
      ⊢ iprop((iprop((∃ W', owes (c : Thread nD τ) 0 W') ∗ zeros (F := F) c ∗ scr (F := F) c ∗ ins m c ∗ holds c oM fullShare (G m)) -∗ Q ⟨⟩)
        -∗ WP c prog Q) := by
  unfold prog pres scr zeros
  simp only [WP, wp_deviceId]
  iintro ⟨#HR, #Hlev, HO, ⟨Hg, Hts, Htr, Har, Hcr, Has⟩, ⟨Hi, Hr, Hh⟩, Hin, Hout⟩ HQ
  ihave Hm := (mem_open (F := F) c) $$ [Hr Hh Hout]
  · isplitl [Hr]; · iexact Hr
    isplitl [Hh] <;> iassumption
  icases Hm with ⟨Hm, Hf⟩
  iapply (wp_greet m K c W _ Q) $$ [HO Hg Hm]
  · isplitr; · iexact HR
    isplitr; · iexact Hlev
    isplitl [HO]; · iexact HO
    isplitl [Hg] <;> iassumption
  iintro ⟨HO, Hzb, Hl⟩
  ihave HE := (Eng_intro m K c) $$ [HO Hts Htr Hl Har Hcr]
  · isplitr; · iexact HR
    isplitr; · iexact Hlev
    isplitl [HO]; · iexact HO
    isplitl [Hts]; · iexact Hts
    isplitl [Htr]; · iexact Htr
    isplitl [Hl]; · iexact Hl
    isplitl [Har] <;> iassumption
  ihave Hi := (show (both fun d => some' (F := F) c (iM d)) ⊢ iprop(some' (F := F) c (iM false) ∗ some' (F := F) c (iM true)) from Entails.of_eq rfl) $$ Hi
  icases Hi with ⟨Hi0, Hi1⟩
  iapply (wp_rsPhase m K c _ Q) $$ [HE Hin Hi0 Hi1]
  · isplitl [HE]; · iexact HE
    isplitl [Hin]; · iexact Hin
    isplitl [Hi0] <;> iassumption
  iintro ⟨HE, Hin, Hlast⟩
  ihave Hlast := (last_open m c) $$ Hlast
  icases Hlast with ⟨Hx, Hkept⟩
  iapply (wp_xPhase m K c _ Q) $$ [HE Hx Hkept Hf]
  · isplitl [HE]; · iexact HE
    isplitl [Hx]; · iexact Hx
    simp only [both_sep, bs_sep]
    isplitl [Hkept] <;> iassumption
  unfold done
  simp only [both_sep, bs_sep, got_gg, fSl_QQ, QQ_share m c _ (1 - half c)]
  iintro ⟨HE, ⟨Hkept, Hxx, HfR⟩, HgL, HgR⟩
  ihave Hag := (Entails.of_eq (ag_first m c)) $$ [HfR HgR]
  · isplitl [HfR] <;> iassumption
  iapply (wp_agPhase m K c _ Q) $$ [HE Hag]
  · isplitl [HE] <;> iassumption
  iintro ⟨HE, HagL, HagE⟩
  ihave HD := (Drn_intro m K c) $$ [HE Has]
  · isplitl [HE] <;> iassumption
  icases HD with ⟨HD, Hzr⟩
  iapply (wp_drain m K c _ Q) $$ HD
  iintro HD
  ihave HD := (Drn_elim m K c) $$ HD
  icases HD with ⟨HO, Hhav, Hzs⟩
  ihave Hhav := (Entails.of_eq (xf_split (hav m c))) $$ Hhav
  icases Hhav with ⟨Hrs, Hx, Hgg, Hag⟩
  ihave Hscr := (rs_close m c) $$ [Hrs Hx Hkept]
  · isplitl [Hrs]; · iexact Hrs
    isplitl [Hx] <;> iassumption
  icases Hscr with ⟨Hi, Hr⟩
  ihave Hh := (hM_close m c) $$ Hxx
  ihave Hag := (Entails.of_eq (bs_first fun s => bigSep Finset.univ fun p => both fun d => hav m c (.ag s p d))) $$ Hag
  icases Hag with ⟨Hag0, Hag⟩
  ihave Hag0 := (Entails.of_eq (ag_first m c).symm) $$ Hag0
  icases Hag0 with ⟨HfR, HgR⟩
  iapply (ret_intro c Q)
  iapply HQ
  isplitl [HO]; · iexact HO
  isplitl [Hzb Hzs Hzr]
  · isplitl [Hzb]; · iexact Hzb
    isplitl [Hzs] <;> iassumption
  isplitl [Hi Hr Hh]
  · isplitl [Hi]; · iexact Hi
    isplitl [Hr] <;> iassumption
  isplitl [Hin]; · iexact Hin
  iapply (out_close m c)
  rw [bs_last fun s => bigSep Finset.univ fun h => both fun d => got m c (.ag s h d)]
  simp only [got_ag, QQ_share, both_sep, bs_sep]
  isplitl [Hgg HfR]
  · isplitl [Hgg]
    · iapply (bs_mono fun p _ => both_mono fun d => Entails.of_eq (hav_gg' m c p d)) $$ Hgg
    iexact HfR
  isplitl [HgL HgR]
  · isplitl [HgL] <;> iassumption
  isplitl [HagL Hag]
  · isplitl [HagL] <;> iassumption
  iexact HagE

end Cert.Ring
end
-- ==== Proof.Launch.lean ====
/-
# The launch

The pipeline's data for the body, the semaphores and duties dealt out at launch, and the run of the whole program.
-/
module

public import proofs.«01_k».proof.Proof.Body
public import Idealize.ShloMosaic.Lib.Pipeline.Launch
public import Idealize.ShloMosaic.Lib.Pipeline.Kit
public import Idealize.ShloMosaic.Lib.Pipeline.CollectiveSegs
public import Idealize.ShloMosaic.Lib.Pipeline.FrameBody

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What the body starts from and leaves -/

/-- A device's tokens and positions: what it pays with, and where it stands at its own semaphores. -/
def lin (c : Dev nD) : sProp 𝕄 :=
  iprop((dutyTok ER (bcell (left c)) 0 0 ∗ dutyTok ER (bcell (right c)) 0 1 ∗ dutyTok ER (bcell (partner c)) 0 2
      ∗ (bigSep Finset.univ fun t : Xf => dutyTok ER (scell c t) 0 0) ∗ bigSep Finset.univ fun t : Xf => dutyTok ER (rcell (tgt c t) t) 0 0)
    ∗ bigSep Finset.univ fun k : CK => atPos ER (kcell (c, k)) 0 ∅ 0)

/-- What arrives at a device's semaphores, as credit. -/
def income (c : Dev nD) : sProp 𝕄 :=
  iprop(cred (tallyAt (bcell c) () 3) ∗ bigSep Finset.univ fun t : Xf => cred (tallyAt (rcell c t) () (cr t)))

def dealt (c : Dev nD) : sProp 𝕄 := iprop(∃ K, records m K ∗ lin (F := F) c)
def start (c : Dev nD) : sProp 𝕄 := iprop(dealt m c ∗ income (F := F) c ∗ levAts L lv)
def Φ₀ (c : Dev nD) : sProp 𝕄 := iprop(start m c ∗ scr (F := F) c)
def Φ₁ (c : Dev nD) : sProp 𝕄 := iprop(zeros (F := F) c ∗ scr (F := F) c)

/-- A conjunction over a device's semaphores, by what they are. -/
theorem cells_split (Φ : CK → sProp 𝕄) :
    bigSep Finset.univ Φ = iprop(Φ none ∗ (bigSep Finset.univ fun t => Φ (some (false, t))) ∗ bigSep Finset.univ fun t => Φ (some (true, t))) := by
  rw [bs_option, bigSep_univ_prod, bs_bool]; rfl

theorem zeros_eq (c : Dev nD) : (bigSep Finset.univ fun k : CK => semVal (kcell (c, k)) 0 : sProp 𝕄) = zeros (F := F) c := by
  rw [cells_split]; rfl

theorem pres_intro (c : Dev nD) : iprop(lin (F := F) c ∗ income (F := F) c) ⊢ pres (F := F) c := by
  unfold lin income pres gres
  rw [cells_split]
  iintro ⟨⟨⟨H0, H1, H2, Hs, Hr⟩, Ab, As, Ar⟩, Cb, Cr⟩
  isplitl [H0 H1 H2 Cb Ab]
  · isplitl [H0]; · iexact H0
    isplitl [H1]; · iexact H1
    isplitl [H2]; · iexact H2
    isplitl [Cb] <;> iassumption
  isplitl [Hs]; · iexact Hs
  isplitl [Hr]; · iexact Hr
  isplitl [Ar]; · iexact Ar
  isplitl [Cr] <;> iassumption

def s₀ : MemSt nD τ sig (Elt F) := ⟨m, fun _ => 0, ρ⟩

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => G m
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

theorem before_x (c : Dev nD) (d) : (dats m ρ 0 c).before (0 : Fin 3) t0_0 d = xstg m c := by
  unfold Dat.before; rw [if_pos (fetch0_0 t0_0)]; rfl
theorem before_w (c : Dev nD) (d) : (dats m ρ 0 c).before (1 : Fin 3) t0_0 d = wstg m c := by
  unfold Dat.before; rw [if_pos (fetch0_1 t0_0)]; rfl

def bodyPre (c : Dev nD) : sProp 𝕄 :=
  iprop(Φ₀ m c ∗ (dats m ρ 0 c).owesAt () t0_0.castSucc
    ∗ (∃ d, holds c xM fullShare ((dats m ρ 0 c).before (0 : Fin 3) t0_0 d))
    ∗ (∃ d, holds c wM fullShare ((dats m ρ 0 c).before (1 : Fin 3) t0_0 d))
    ∗ (∃ d, holds c oM fullShare ((dats m ρ 0 c).before (2 : Fin 3) t0_0 d)))
def bodyPost (c : Dev nD) : sProp 𝕄 :=
  iprop(Φ₁ (F := F) c ∗ (dats m ρ 0 c).owesAt () t0_0.succ
    ∗ holds c xM fullShare (xstg m c) ∗ holds c wM fullShare (wstg m c) ∗ holds c oM fullShare (G m))

theorem body_run (c : Dev nD) : bodyPre m ρ c ⊢ WP c (bodyAt0 (F := F) t0_0) fun _ => bodyPost m ρ c := by
  rw [body_eq_prog]
  unfold bodyPre Φ₀ start dealt
  iintro ⟨⟨⟨⟨%K, #HR, Hlin⟩, Hinc, Hlev⟩, Hscr⟩, Ho, ⟨%dx, Hx⟩, ⟨%dw, Hw⟩, ⟨%dO, Hout⟩⟩
  ihave Ho' := (show (dats m ρ 0 c).owesAt () t0_0.castSucc ⊢ iprop(∃ W, owes (c : Thread nD τ) (O₀ c) W) from by
    unfold Dat.owesAt Pipeline.owesWithin
    iintro ⟨%W, %hW, HO⟩
    iexists W; iexact HO) $$ Ho
  icases Ho' with ⟨%W, HO⟩
  ihave Hx' := (Entails.of_eq (congrArg (holds c xM fullShare) (before_x m ρ c dx))) $$ Hx
  ihave Hw' := (Entails.of_eq (congrArg (holds c wM fullShare) (before_w m ρ c dw))) $$ Hw
  ihave Hp := (pres_intro (F := F) c) $$ [Hlin Hinc]
  · isplitl [Hlin] <;> iassumption
  iapply (wp_prog m K c W fun _ => bodyPost m ρ c) $$ [HO Hp Hlev Hscr Hx' Hw' Hout]
  · isplitr; · iexact HR
    isplitl [Hlev]; · iexact Hlev
    isplitl [HO]; · iexact HO
    isplitl [Hp]; · iexact Hp
    isplitl [Hscr]; · iexact Hscr
    isplitl [Hx' Hw']
    · unfold ins; isplitl [Hx'] <;> iassumption
    · iapply (forget (F := F) c oM _) $$ Hout
  unfold bodyPost Φ₁ ins
  iintro ⟨⟨%W', HO⟩, Hz, Hscr, ⟨Hx, Hw⟩, Ho⟩
  isplitl [Hz Hscr]
  · isplitl [Hz] <;> iassumption
  isplitl [HO]
  · unfold Dat.owesAt Pipeline.owesWithin
    iexists W'
    isplitr; · ipureintro; exact fun _ _ => Or.inl trivial
    iexact HO
  isplitl [Hx]; · iexact Hx
  isplitl [Hw] <;> iassumption

theorem body_row : defs₀ (F := F) .tc cfg0.body (cfg0.bodyArgs t0_0 (cfg0.slots t0_0)) = bodyAt0 t0_0 := by
  unfold defs₀ Defs.onTc
  dsimp only [cfg0]

set_option maxRecDepth 4000 in
theorem body_obligation (c : Dev nD) : BodyObligation (dats (F := F) m ρ 0 c) (defs₀ (F := F)) 𝒱₀ () Set.univ := fun t => by
  rw [fin_N0 t]
  rw [bigSep_W0, bigSep_W0]
  refine triple_restated (body_run m ρ c) ?_ ?_ ?_
  · exact congrArg (wp frame (wpE (defs₀ (F := F)) 𝒱₀ c none) Set.univ) body_row.symm
  · exact .rfl
  · exact fun _ => .rfl

/-! ## The launch's semaphores and duties -/

abbrev osem (x : Bool × Xf) : SemLoc sig := csem (some x)

theorem role_stage : ∀ (w : Fin 3) (s : Fin (spec0 w).nbuf), role (.dma ((spec0 w).sem s)) = none := by decide +kernel

theorem ownSemFacts : Pipeline.OwnSemFacts cfg0.spec osem :=
  ⟨fun x => by revert x; decide +kernel, fun a b h => Option.some.inj (csem_inj h), fun x w s h => by
    have h0 := role_stage w s
    have h1 : role (.dma ((spec0 w).sem s)) = some (some x) := (congrArg role h).symm.trans (role_csem _)
    exact absurd (h0.symm.trans h1) (fun e => by cases e)⟩

/-- The duties as minted, a device's own: its barrier's three, and one for each copy semaphore. -/
abbrev TK := Fin 3 ⊕ (Bool × Xf)
abbrev tokOf : Dev nD × TK → GSem nD τ sig × ℕ × Fin 3
  | (c, .inl k) => (bcell c, 0, k)
  | (c, .inr x) => (kcell (c, some x), 0, 0)

theorem tokOf_inj : Function.Injective tokOf := by
  rintro ⟨c, k | x⟩ ⟨c', k' | x'⟩ h <;> dsimp only [tokOf] at h
  · have h1 := kcell_inj (Prod.ext_iff.mp h).1
    have h2 : k = k' := (Prod.ext_iff.mp (Prod.ext_iff.mp h).2).2
    have h3 : c = c' := (Prod.ext_iff.mp h1).1
    subst h2 h3; rfl
  · exact absurd (Prod.ext_iff.mp (kcell_inj (Prod.ext_iff.mp h).1)).2 (fun e => by cases e)
  · exact absurd (Prod.ext_iff.mp (kcell_inj (Prod.ext_iff.mp h).1)).2 (fun e => by cases e)
  · have h1 := kcell_inj (Prod.ext_iff.mp h).1
    have h2 : x = x' := Option.some.inj (Prod.ext_iff.mp h1).2
    have h3 : c = c' := (Prod.ext_iff.mp h1).1
    subst h2 h3; rfl

def cells : Finset (GSem nD τ sig) := Finset.univ.map ⟨kcell, kcell_inj⟩
def duties : Finset (GSem nD τ sig × ℕ × Fin 3) := Finset.univ.map ⟨tokOf, tokOf_inj⟩

def u₀ : UU := (initOf (Pipeline.cells cfgs cellOf_inj) (Pipeline.launchToks cfgs cellOf_inj), initOf cells duties)

/-- The duties of a device's own semaphores. -/
def toks (c : Dev nD) : sProp 𝕄 :=
  iprop((dutyTok ER (bcell c) 0 0 ∗ dutyTok ER (bcell c) 0 1 ∗ dutyTok ER (bcell c) 0 2)
    ∗ (bigSep Finset.univ fun t : Xf => dutyTok ER (scell c t) 0 0) ∗ bigSep Finset.univ fun t : Xf => dutyTok ER (rcell c t) 0 0)

def minted (c : Dev nD) : sProp 𝕄 :=
  iprop((bigSep Finset.univ fun k : CK => roundState ER (rd (F := F) m) (kcell (c, k)) 0)
    ∗ (bigSep Finset.univ fun k : CK => iprop(atPos ER (kcell (c, k)) 0 ∅ 0 ∗ reached ER (kcell (c, k)) 0)) ∗ toks (F := F) c)

theorem bs_three (Φ : Fin 3 → sProp 𝕄) : bigSep Finset.univ Φ = iprop(Φ 0 ∗ Φ 1 ∗ Φ 2) :=
  bigSep_univ_eq_bigSepL [0, 1, 2] (by decide) (by decide) Φ

theorem duties_eq (c : Dev nD) :
    (bigSep Finset.univ fun k : TK => dutyTok ER (tokOf (c, k)).1 (tokOf (c, k)).2.1 (tokOf (c, k)).2.2 : sProp 𝕄) = toks (F := F) c := by
  rw [bigSep_univ_sum, bs_three, bigSep_univ_prod, bs_bool]; rfl

theorem fund : BI.own (ER (initOf cells duties)) ⊢ (|==> bigSep Finset.univ (minted m) : sProp 𝕄) := by
  have hX (Φ : GSem nD τ sig → sProp 𝕄) : bigSep cells Φ = bigSep Finset.univ fun c : Dev nD => bigSep Finset.univ fun k : CK => Φ (kcell (c, k)) := by
    unfold cells; rw [bigSep_map, bigSep_univ_prod]; rfl
  have hT : bigSep duties (fun x => (dutyTok ER x.1 x.2.1 x.2.2 : sProp 𝕄)) = bigSep Finset.univ fun c : Dev nD => toks (F := F) c := by
    unfold duties; rw [bigSep_map, bigSep_univ_prod]
    exact bigSep_congr fun c _ => duties_eq c
  iintro HX
  imod (Rounds.fund ER (rd (F := F) m) cells duties) $$ HX with ⟨Hst, Hr, Hat, Htok⟩
  imodintro
  ihave Hst' := (Entails.of_eq (hX fun g => roundState ER (rd (F := F) m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold minted; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (bcell c) 0 := by
  unfold unscopedSems0; rw [bigSep_eq_bigSepL_of_eq [SemLoc.reg barS] (by decide) (by decide)]; rfl

abbrev own0 (c : Dev nD) : sProp 𝕄 := Pipeline.ownSems0 (Ix := Unit) (Name := ℕ) (U := UU) (Lvl := ℕ) (Val := Elt F) (τ := τ) osem c

theorem sems0_eq (c : Dev nD) : iprop(own0 (F := F) c ∗ unscopedSems0 c) = (bigSep Finset.univ fun k : CK => semVal (kcell (c, k)) 0 : sProp 𝕄) := by
  rw [unscopedSems0_eq, bs_option, comm2]; rfl

theorem core_alloc (c : Dev nD) :
    iprop(own0 (F := F) c ∗ unscopedSems0 c ∗ minted m c)
      ⊢ |={Set.univ}=> iprop((bigSep Finset.univ fun k : CK => iprop(∃ κ : ℕ, cellInv ER (rd (F := F) m) κ (kcell (c, k))))
          ∗ (bigSep Finset.univ fun k : CK => iprop(atPos ER (kcell (c, k)) 0 ∅ 0 ∗ reached ER (kcell (c, k)) 0)) ∗ toks (F := F) c) := by
  unfold minted
  iintro ⟨Hos, Hus, Hst, Hat, Htok⟩
  ihave Hv := (Entails.of_eq (sems0_eq (F := F) c)) $$ [Hos Hus]
  · isplitl [Hos] <;> iassumption
  imod (show iprop((bigSep Finset.univ fun k : CK => semVal (kcell (c, k)) 0) ∗ bigSep Finset.univ fun k : CK => roundState ER (rd (F := F) m) (kcell (c, k)) 0)
      ⊢ (|={Set.univ}=> bigSep Finset.univ fun k : CK => iprop(∃ κ : ℕ, cellInv ER (rd (F := F) m) κ (kcell (c, k))) : sProp 𝕄) from by
        rw [← bigSep_sep']
        exact (bigSep_mono fun k _ => (Rounds.body_intro ER (rd (F := F) m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ### Dealing the duties to the devices that pay them -/

def leftE : Dev nD ≃ Dev nD := ⟨left, right, right_left, left_right⟩
def partnerE : Dev nD ≃ Dev nD := ⟨partner, partner, partner_partner, partner_partner⟩
def tgtE (t : Xf) : Dev nD ≃ Dev nD := ⟨fun c => tgt c t, fun c => frm c t, fun c => frm_tgt c t, fun c => tgt_frm c t⟩

theorem deal_r : (bigSep Finset.univ fun c : Dev nD => bigSep Finset.univ fun t : Xf => (dutyTok ER (rcell c t) 0 0 : sProp 𝕄))
    = bigSep Finset.univ fun c : Dev nD => bigSep Finset.univ fun t : Xf => dutyTok ER (rcell (tgt c t) t) 0 0 := by
  rw [bigSep_univ_comm (fun (c : Dev nD) (t : Xf) => (dutyTok ER (rcell c t) 0 0 : sProp 𝕄)),
    bigSep_univ_comm (fun (c : Dev nD) (t : Xf) => (dutyTok ER (rcell (tgt c t) t) 0 0 : sProp 𝕄))]
  exact bigSep_congr fun t _ => bigSep_univ_equiv (tgtE t) (fun c : Dev nD => (dutyTok ER (rcell c t) 0 0 : sProp 𝕄))

/-- What a device pays with. -/
def pays (c : Dev nD) : sProp 𝕄 :=
  iprop(dutyTok ER (bcell (left c)) 0 0 ∗ dutyTok ER (bcell (right c)) 0 1 ∗ dutyTok ER (bcell (partner c)) 0 2
      ∗ (bigSep Finset.univ fun t : Xf => dutyTok ER (scell c t) 0 0) ∗ bigSep Finset.univ fun t : Xf => dutyTok ER (rcell (tgt c t) t) 0 0)

theorem deal : (bigSep Finset.univ fun c : Dev nD => (toks (F := F) c : sProp 𝕄)) ⊢ bigSep Finset.univ fun c : Dev nD => pays (F := F) c := by
  unfold toks pays
  simp only [bigSep_sep']
  rw [deal_r,
    bigSep_univ_equiv leftE (fun c : Dev nD => (dutyTok ER (bcell c) 0 0 : sProp 𝕄)),
    bigSep_univ_equiv leftE.symm (fun c : Dev nD => (dutyTok ER (bcell c) 0 1 : sProp 𝕄)),
    bigSep_univ_equiv partnerE (fun c : Dev nD => (dutyTok ER (bcell c) 0 2 : sProp 𝕄))]
  iintro ⟨⟨H1, H2, H3⟩, H4, H5⟩
  isplitl [H1]; · iexact H1
  isplitl [H2]; · iexact H2
  isplitl [H3]; · iexact H3
  isplitl [H4] <;> iassumption

theorem share_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (rd (F := F) m) κ (kcell (c, k))))
          ∗ (bigSep Finset.univ fun k : CK => iprop(atPos ER (kcell (c, k)) 0 ∅ 0 ∗ reached ER (kcell (c, k)) 0)) ∗ toks (F := F) c) : sProp 𝕄)
      ⊢ bigSep Finset.univ (dealt m) := by
  rw [bigSep_sep', bigSep_sep', ← bigSep_univ_prod (fun ck : Dev nD × CK => iprop(∃ κ : ℕ, cellInv ER (rd (F := F) m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (rd (F := F) m) κ (kcell ck) : sProp 𝕄))) $$ HI
  icases HK with ⟨%K, #HI⟩
  ihave Htk := (deal (F := F)) $$ Htok
  iapply (share_persistent (R := records m K) (Φ := lin (F := F)) fun c _ => show iprop(records m K ∗ lin (F := F) c) ⊢ dealt m c from by
    unfold dealt; iintro H; iexists K; iexact H)
  isplitr
  · unfold records; isplitl; · iexact HI
    iexact HR
  · iapply (show iprop((bigSep Finset.univ fun c : Dev nD => pays (F := F) c) ∗ bigSep Finset.univ fun c : Dev nD => bigSep Finset.univ fun k : CK => (atPos ER (kcell (c, k)) 0 ∅ 0 : sProp 𝕄))
        ⊢ bigSep Finset.univ (lin (F := F)) from by rw [← bigSep_sep']; exact bigSep_mono fun c _ => (show iprop(pays (F := F) c ∗ bigSep Finset.univ fun k : CK => (atPos ER (kcell (c, k)) 0 ∅ 0 : sProp 𝕄)) ⊢ lin (F := F) c from by unfold pays lin; iintro H; iexact H))
    isplitl [Htk]; · iexact Htk
    iexact Hat

theorem glob : (bigSep Finset.univ fun c => iprop(own0 (F := F) c ∗ unscopedSems0 c ∗ minted m c) : sProp 𝕄)
    ⊢ |={Set.univ}=> bigSep Finset.univ (dealt m) :=
  ((bigSep_mono fun c _ => core_alloc m c).trans (bigSep_fupd _ _)).trans (BI.fupd_mono (regroup m))

/-! ### What is owed at launch -/

theorem bcell_eq_iff {a b : Dev nD} : Iff (bcell a = bcell b) (a = b) :=
  ⟨fun h => (Prod.ext_iff.mp (kcell_inj h)).1, fun h => h ▸ rfl⟩
theorem rcell_eq_iff {a b : Dev nD} {t u : Xf} : Iff (rcell a t = rcell b u) (a = b ∧ t = u) :=
  ⟨fun h => ⟨(Prod.ext_iff.mp (kcell_inj h)).1, by
    have := (Prod.ext_iff.mp (kcell_inj h)).2
    exact (Prod.ext_iff.mp (Option.some.inj this)).2⟩, fun h => by rw [h.1, h.2]⟩
theorem bcell_ne_rcell {a b : Dev nD} {t : Xf} : bcell a ≠ rcell b t := fun h => by
  have := (Prod.ext_iff.mp (kcell_inj h)).2; cases this

theorem owed_bar (d c : Dev nD) : O₀ d (bcell c) () = (if d = partner c then 1 else 0) + (if d = left c then 1 else 0) + (if d = right c then 1 else 0) := by
  unfold O₀
  rw [Pi.add_apply, Finsupp.add_apply, Pi.add_apply, Finsupp.add_apply, Pi.add_apply, Finsupp.add_apply, O_apply, tallyAt_apply, tallyAt_apply, tallyAt_apply,
    Finset.sum_eq_zero (fun t _ => if_neg bcell_ne_rcell), Nat.zero_add]
  refine congrArg₂ (· + ·) (congrArg₂ (· + ·) (if_congr ?_ rfl rfl) (if_congr ?_ rfl rfl)) (if_congr ?_ rfl rfl)
  · rw [bcell_eq_iff]; exact ⟨fun h => by rw [h.1, partner_partner], fun h => ⟨by rw [h, partner_partner], rfl⟩⟩
  · rw [bcell_eq_iff]; exact ⟨fun h => by rw [h.1, left_right], fun h => ⟨by rw [h, right_left], rfl⟩⟩
  · rw [bcell_eq_iff]; exact ⟨fun h => by rw [h.1, right_left], fun h => ⟨by rw [h, left_right], rfl⟩⟩

theorem owed_r (d c : Dev nD) (t : Xf) : O₀ d (rcell c t) () = if d = frm c t then cr t else 0 := by
  unfold O₀
  rw [Pi.add_apply, Finsupp.add_apply, Pi.add_apply, Finsupp.add_apply, Pi.add_apply, Finsupp.add_apply, O_apply, from_0,
    tallyAt_ne_cell bcell_ne_rcell.symm, tallyAt_ne_cell bcell_ne_rcell.symm, tallyAt_ne_cell bcell_ne_rcell.symm]
  simp only [Finsupp.zero_apply, Nat.add_zero]
  rw [Finset.sum_congr rfl (g := fun u => if t = u then (if d = frm c t then cr t else 0) else 0), Finset.sum_ite_eq Finset.univ t, if_pos (Finset.mem_univ _)]
  intro u _
  by_cases hu : t = u
  · subst hu
    rw [if_pos rfl]
    refine if_congr ?_ rfl rfl
    rw [rcell_eq_iff]
    exact ⟨fun h => by rw [h.1, frm_tgt], fun h => ⟨by rw [h, tgt_frm], rfl⟩⟩
  · rw [if_neg hu, if_neg fun h => hu (rcell_eq_iff.mp h).2]

theorem launch_bar (c : Dev nD) :
    tallyOn (bcell c) (launchCredit (Pipeline.owing O₀) 0 (bcell c)) = (tallyAt (bcell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (partner c) fun _ => 1, Finset.sum_ite_eq' Finset.univ (left c) fun _ => 1, Finset.sum_ite_eq' Finset.univ (right c) fun _ => 1,
    if_pos (Finset.mem_univ _), if_pos (Finset.mem_univ _), if_pos (Finset.mem_univ _)]

theorem launch_r (c : Dev nD) (t : Xf) :
    tallyOn (rcell c t) (launchCredit (Pipeline.owing O₀) 0 (rcell c t)) = (tallyAt (rcell c t) () (cr t) : CellTallies nD τ sig Unit) := by
  unfold tallyAt; refine congrArg _ (Finsupp.ext fun u => ?_); cases u
  rw [Pipeline.launchCredit_owing, Finsupp.single_eq_same, Finset.sum_congr rfl fun d _ => owed_r d c t, Finset.sum_ite_eq' Finset.univ (frm c t) fun _ => cr t,
    if_pos (Finset.mem_univ _)]

theorem income_intro (c : Dev nD) : (Pipeline.launchCred O₀ c : sProp 𝕄) ⊢ income (F := F) c := by
  unfold Pipeline.launchCred
  have key (Ψ : GSem nD τ sig → CellTallies nD τ sig Unit) (hb : Ψ (bcell c) = tallyAt (bcell c) () 3) (hr : ∀ t, Ψ (rcell c t) = tallyAt (rcell c t) () (cr t)) :
      iprop((cred (Ψ (bcell c)) : sProp 𝕄) ∗ (bigSep Finset.univ fun t : Xf => cred (Ψ (scell c t))) ∗ bigSep Finset.univ fun t : Xf => cred (Ψ (rcell c t)))
        ⊢ income (F := F) c := by
    unfold income
    simp only [hb, hr]
    iintro ⟨Hb, -, Hr⟩
    isplitl [Hb] <;> iassumption
  refine (BI.bigSep_subset (Finset.subset_univ (Finset.univ.map ⟨csem, csem_inj⟩))).trans ?_
  rw [bigSep_map, cells_split]
  exact key (fun g => tallyOn g (launchCredit (Pipeline.owing O₀) 0 g)) (launch_bar c) (launch_r c)

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt m c)
      ⊢ |={Set.univ}=> iprop(start m c ∗ emp) := by
  iintro ⟨-, Hlev, Hcr, -, HG⟩
  ihave Hc := (income_intro (F := F) c) $$ Hcr
  imodintro
  unfold start
  isplitl
  · isplitl [HG]; · iexact HG
    isplitl [Hc] <;> iassumption
  · iempintro

/-- A whole buffer at some contents, the two ways of saying it. -/
theorem some_whole (c : Dev nD) (b : Ref sig .tc) :
    (iprop(∃ X, owns (c : Thread nD τ) (Memref.whole b) fullShare X) : sProp 𝕄)
      = iprop(∃ f : Buf (Elt F) ((c : Thread nD τ).loc b), ((c : Thread nD τ).loc b) ↦{fullShare} f) := by
  simp only [owns_whole_eq]
  apply eq_of
  · iintro ⟨%X, %f, -, H⟩; iexists f; iexact H
  · iintro ⟨%f, H⟩; iexists f; iexists f; isplitr; · ipureintro; rfl
    iexact H

theorem scr_fold (c : Dev nD) :
    (iprop(some' (F := F) c (iM false) ∗ some' (F := F) c (iM true) ∗ some' (F := F) c (rM false) ∗ some' (F := F) c (rM true)
      ∗ some' (F := F) c (hM false) ∗ some' (F := F) c (hM true)) ⊢ scr (F := F) c)
    ∧ (scr (F := F) c ⊢ iprop(some' (F := F) c (iM false) ∗ some' (F := F) c (iM true) ∗ some' (F := F) c (rM false) ∗ some' (F := F) c (rM true)
      ∗ some' (F := F) c (hM false) ∗ some' (F := F) c (hM true))) := by
  unfold scr both
  constructor
  · iintro ⟨H0, H1, H2, H3, H4, H5⟩
    isplitl [H0 H1]
    · isplitl [H0] <;> iassumption
    isplitl [H2 H3]
    · isplitl [H2] <;> iassumption
    isplitl [H4] <;> iassumption
  · iintro ⟨⟨H0, H1⟩, ⟨H2, H3⟩, H4, H5⟩
    isplitl [H0]; · iexact H0
    isplitl [H1]; · iexact H1
    isplitl [H2]; · iexact H2
    isplitl [H3]; · iexact H3
    isplitl [H4] <;> iassumption

theorem scr_eq (c : Dev nD) : (Pipeline.scopedRest cfg0.spec c : sProp 𝕄) = scr (F := F) c := by
  rw [scopedRest0_eq, ← some_whole, ← some_whole, ← some_whole, ← some_whole, ← some_whole, ← some_whole]
  exact eq_of (scr_fold c).1 (scr_fold c).2

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scr_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ own0 (F := F) c ∗ Pipeline.scopedRest cfg0.spec c) := by
  rw [show (dats m ρ 0 c).Φ (Fin.last cfg0.N) = Φ₁ (F := F) c from rfl, scr_eq]
  unfold Φ₁
  rw [← zeros_eq, ← sems0_eq]
  iintro ⟨⟨Ho, Hu⟩, Hr⟩
  isplitl [Hu]; · iexact Hu
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by unfold lv; rw [role_stage w s]) _ (by
      rcases t with ⟨_ | _, ht⟩
      · exact Or.inl rfl
      · exact Or.inr rfl)

theorem share_eq (c : Dev nD) (w : Fin cfg0.W) : (dats m ρ 0 c).share w = fullShare := by unfold Dat.share; split <;> rfl

def finalA (c : Dev nD) (w : Fin cfg0.W) : Buf (Elt F) ((cfg0.win w).arr.view.loc (c : Thread nD τ)) := (dats m ρ 0 c).arrAt w cfg0.N

def Done : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- At any float values, from any memory with zero counters, every weakly fair execution of the program over its 32 devices
    terminates; each device's arrays then hold the contents computed here and every counter is at zero. -/
theorem run_main : θ_run defs (onTc (τ := τ) (main (F := F))) (s₀ m ρ) (fun r => Done m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := minted m) (G' := dealt m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _
theorem finalA_o (c : Dev nD) : (win0_2.blk (0 : Fin 1)).view.read (Elt F) (finalA m ρ c (2 : Fin 3)) = G m := by
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from flush0_2 t0_0, if_pos rfl]
  exact View.read_write_univ _ _

end Cert.Ring

end
-- ==== Proof.Frames.lean ====
/-
# The frames

The kernel and its idealization are one text: the run proved at any float values gives both their frames.
-/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent

@[expose] public section

noncomputable section

namespace Cert.Ring

open Idealize.ShloMosaic Idealize.SL.Sem

/-- The frame at any float values. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (0 : Fin 3)).trans (finalA_x m ρ c), (h.1 c (1 : Fin 3)).trans (finalA_w m ρ c)⟩, h.2⟩)
    (run_main m ρ)

theorem frame_ideal : Cert.quiescent_KernelIdeal := fun m ρ _ => frame_any m ρ

/-- The two programs' bodies are one. -/
theorem body_same : Cert.Kernel.defs₀ (F := Bits) = Cert.KernelIdeal.defs₀ (F := Bits) := by
  chain_rfl

theorem frame_kernel : Cert.quiescent_Kernel := fun m ρ _ => by
  unfold Cert.Kernel.defs
  rw [body_same]
  exact frame_any (F := Bits) m ρ

theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Ring

end
-- ==== Proof.Products.lean ====
/-
# The partial products at an index

Read over the extended reals: what a device multiplies before a step of a ring is, at each index, its own sixty-four
summands of the contraction of the whole matrices.
-/
module

public import proofs.«01_k».proof.Proof.Proto
public import Idealize.ShloMosaic.Lib.Pointwise

@[expose] public section

noncomputable section

namespace Cert.Ring

open Cert.KernelIdeal Cert.KernelIdeal.Gen

open Idealize.ShloMosaic
open Idealize.ShloMosaic.TcCoe

variable (m : (ℓ : Loc nD τ sig) → Buf (Elt Ideal) ℓ)

/-- Device `e`'s summands of element `(i, j)` of the product. -/
def share (e : Dev nD) (i j : Fin 2048) : EReal :=
  ∑ k : Fin 64, (xstg m e (ix2 i k) : EReal) * (wstg m e (ix2 k j) : EReal)

/-- Row `a` of half `p` of chunk `k`; -/
def gRow (k : Fin 16) (p : Fin 2) (a : Fin 64) : Fin 2048 := ⟨128 * k.val + 64 * p.val + a.val, by omega⟩
/-- column `b` of a direction. -/
def gCol (d : Bool) (b : Fin 1024) : Fin 2048 := ⟨1024 * d.toNat + b.val, by have := d.toNat_lt; omega⟩

/-- The chunk of rows a device multiplies before step `s` (the first, `0`, before any). -/
def chunkAt (s : Fin 16) (c : Dev nD) : Bool → Fin 16
  | false => pos c - s
  | true => pos c + s

theorem chunkAt_prv (s : Fin 15) (c : Dev nD) (d : Bool) : chunkAt s.castSucc (prv c d) d = chunkAt s.succ c d := by
  revert s c d; decide +kernel
theorem chunkAt_last (c : Dev nD) (d : Bool) : chunkAt 15 c d = own c d := by revert c d; decide +kernel

theorem pay1_at (x : Vec Ideal S128x64 .f32) (w : Vec Ideal S64x1024 .f32) (a : Fin 128) (b : Fin 1024) :
    (k0_pay1 x w (ix2 a b) : EReal) = ∑ k : Fin 64, (x (ix2 a k) : EReal) * (w (ix2 k b) : EReal) := by
  pointwise [k0_pay1]
theorem pay3_at (x : Vec Ideal S128x64 .f32) (w : Vec Ideal S64x1024 .f32) (a : Fin 128) (b : Fin 1024) :
    (k0_pay3 x w (ix2 a b) : EReal) = ∑ k : Fin 64, (x (ix2 a k) : EReal) * (w (ix2 k b) : EReal) := by
  pointwise [k0_pay3]

theorem wcol_at (c : Dev nD) (d : Bool) (k : Fin 64) (b : Fin 1024) : wcol m c d (ix2 k b) = wstg m c (ix2 k (gCol d b)) := by
  cases d
  · show wstg m c (w0Rect.toLoadRect.idx (ix2 k b)) = _
    refine congrArg (wstg m c) (funext fun a => ?_)
    fin_cases a <;> refine Fin.ext ?_
    · show 0 + 1 * k.val = k.val; omega
    · show 0 + 1 * b.val = 1024 * 0 + b.val; omega
  · show wstg m c (w1Rect.toLoadRect.idx (ix2 k b)) = _
    refine congrArg (wstg m c) (funext fun a => ?_)
    fin_cases a <;> refine Fin.ext ?_
    · show 0 + 1 * k.val = k.val; omega
    · show 1024 + 1 * b.val = 1024 * 1 + b.val; omega

/-- A load of 128 rows of `x`, from a row given by its number. -/
theorem load_x (X : Vec Ideal S2048x64 .f32) (off : Fin 2 → ℕ) (inb : ∀ a, off a + S128x64.size a ≤ S2048x64.size a) (n : Fin 16)
    (h : off = ![128 * n.val, 0]) (p : Fin 2) (a : Fin 64) (k : Fin 64) :
    xM.view.readAt (Elt Ideal) (Rect.unit (s := S2048x64) off S128x64.size inb).toLoadRect X
      (ix2 (⟨64 * p.val + a.val, by omega⟩ : Fin 128) k) = X (ix2 (gRow n p a) k) := by
  subst h
  show X ((Rect.unit (s := S2048x64) ![128 * n.val, 0] S128x64.size inb).toLoadRect.idx _) = _
  refine congrArg X (funext fun q => ?_)
  fin_cases q <;> refine Fin.ext ?_
  · show 128 * n.val + 1 * (64 * p.val + a.val) = 128 * n.val + 64 * p.val + a.val; omega
  · show 0 + 1 * k.val = k.val; omega

theorem hlf_at (p : Fin 2) (X : FVec Ideal S128x1024 .f32) (a : Fin 64) (b : Fin 1024) :
    hlf p X (ix2 a b) = X (ix2 (⟨64 * p.val + a.val, by omega⟩ : Fin 128) b) := by
  refine congrArg X (funext fun q => ?_)
  fin_cases q <;> refine Fin.ext ?_
  · rfl
  · show 0 + b.val = b.val; omega

theorem row4_at (p : Fin 4) (X : FVec Ideal S64x1024 .f32) (a : Fin 16) (b : Fin 1024) :
    row4 p X (ix2 a b) = X (ix2 (⟨16 * p.val + a.val, by omega⟩ : Fin 64) b) := by
  refine congrArg X (funext fun q => ?_)
  fin_cases q <;> refine Fin.ext ?_
  · rfl
  · show 0 + b.val = b.val; omega

/-- The first product of a direction; -/
theorem part0_at (c : Dev nD) (p : Fin 2) (d : Bool) (a : Fin 64) (b : Fin 1024) :
    (hlf p (part0 m c d) (ix2 a b) : EReal) = share m c (gRow (chunkAt 0 c d) p a) (gCol d b) := by
  rw [hlf_at, part0, pay1_at]
  refine Finset.sum_congr rfl fun k _ => ?_
  rw [wcol_at, load_x (xstg m c) _ _ (chunkAt 0 c d) (by rw [off1_eq]; cases d <;> simp [chunkAt])]

/-- and the one added at step `s`. -/
theorem part_at (c : Dev nD) (s : Fin 15) (p : Fin 2) (d : Bool) (a : Fin 64) (b : Fin 1024) :
    (hlf p (part m c s d) (ix2 a b) : EReal) = share m c (gRow (chunkAt s.succ c d) p a) (gCol d b) := by
  rw [hlf_at, part, pay3_at]
  refine Finset.sum_congr rfl fun k _ => ?_
  rw [wcol_at]
  cases d
  · rw [xrow, load_x (xstg m c) _ _ (chunkAt s.succ c false) (by
      rw [off2_eq]; show _ = ![128 * (pos c - s.succ).val, 0]; rw [← Fin.coeSucc_eq_succ, sub_sub])]
  · rw [xrow, load_x (xstg m c) _ _ (chunkAt s.succ c true) (by
      rw [off3_eq]; show _ = ![128 * (pos c + s.succ).val, 0]; rw [← Fin.coeSucc_eq_succ, add_assoc])]

/-! ## The ring's sums -/

/-- The device `j` places back along a direction. -/
def back (d : Bool) (j : ℕ) (c : Dev nD) : Dev nD := (fun e => prv e d)^[j] c

theorem rsv_at (p : Fin 2) (d : Bool) (a : Fin 64) (b : Fin 1024) : ∀ (s : ℕ) (h : s ≤ 15) (c : Dev nD),
    (rsv m s h c p d (ix2 a b) : EReal)
      = ∑ j ∈ Finset.range (s + 1), share m (back d j c) (gRow (chunkAt ⟨s, by omega⟩ c d) p a) (gCol d b)
  | 0, h, c => by rw [rsv, part0_at, Finset.sum_range_one]; rfl
  | s + 1, h, c => by
    rw [rsv, Finset.sum_range_succ']
    show (rsv m s _ (prv c d) p d (ix2 a b) : EReal) + (hlf p (part m c ⟨s, h⟩ d) (ix2 a b) : EReal) = _
    rw [rsv_at p d a b s _ (prv c d), part_at]
    have e : chunkAt ⟨s, by omega⟩ (prv c d) d = chunkAt ⟨s + 1, by omega⟩ c d := chunkAt_prv ⟨s, h⟩ c d
    rw [e]
    rfl

/-- The device a number and a side name: the first sixteen back from `c`, the others back from its partner. -/
def turn (c : Dev nD) (d : Bool) (x : Bool × Fin 16) : Dev nD := back d x.2.val (if x.1 then partner c else c)

theorem half_prv (c : Dev nD) (d : Bool) : half (prv c d) = half c := by
  cases d
  · exact (coords c).2.2.2.1
  · exact (coords c).2.1
theorem half_back (d : Bool) : ∀ (j : ℕ) (c : Dev nD), half (back d j c) = half c
  | 0, c => rfl
  | j + 1, c => (half_back d j (prv c d)).trans (half_prv c d)
theorem pos_back (d : Bool) : ∀ (j : ℕ) (c : Dev nD),
    pos (back d j c) = if d then pos c + Fin.ofNat 16 j else pos c - Fin.ofNat 16 j
  | 0, c => by cases d <;> simp [back]
  | j + 1, c => by
    refine (pos_back d j (prv c d)).trans ?_
    have e : Fin.ofNat 16 (j + 1) = Fin.ofNat 16 j + 1 := by
      refine Fin.ext ?_
      simp only [Fin.ofNat, Fin.val_add]
      omega
    rw [e]
    cases d
    · rw [prv, (coords c).2.2.1]
      simp only [Bool.false_eq_true, if_false]
      rw [sub_sub, add_comm]
    · rw [prv, (coords c).1]
      simp only [if_true]
      rw [add_assoc, add_comm 1]

theorem turn_injective (c : Dev nD) (d : Bool) : Function.Injective (turn c d) := by
  rintro ⟨x, j⟩ ⟨y, k⟩ h
  have hh := congrArg half h
  have hp := congrArg pos h
  have pp : ∀ z : Bool, pos (if z then partner c else c) = pos c := by
    intro z
    cases z
    · rfl
    · exact pos_partner c
  have hn : ∀ u : Fin 2, 1 - u ≠ u := by decide
  have of : ∀ i : Fin 16, Fin.ofNat 16 i.val = i := by decide
  simp only [turn, half_back] at hh
  simp only [turn, pos_back, pp, of] at hp
  have e1 : x = y := by
    cases x <;> cases y
    · rfl
    · exact absurd ((half_partner c).symm.trans hh.symm) (hn _)
    · exact absurd ((half_partner c).symm.trans hh) (hn _)
    · rfl
  have e2 : j = k := by
    cases d
    · exact sub_right_injective hp
    · exact add_right_injective _ hp
  rw [e1, e2]

theorem turn_bijective (c : Dev nD) (d : Bool) : Function.Bijective (turn c d) :=
  (Fintype.bijective_iff_injective_and_card _).mpr ⟨turn_injective c d, by
    rw [Fintype.card_prod, Fintype.card_bool, Fintype.card_fin]; exact (Fintype.card_fin 32).symm⟩

/-- The two rings' sums of a half of a chunk, together: the whole contraction, device by device. -/
theorem tot_at (c : Dev nD) (p : Fin 2) (d : Bool) (a : Fin 64) (b : Fin 1024) :
    (tot m c p d (ix2 a b) : EReal) + (tot m (partner c) p d (ix2 a b) : EReal)
      = ∑ e : Fin 32, share m e (gRow (own c d) p a) (gCol d b) := by
  have hp : own (partner c) d = own c d := by cases d <;> simp only [own, pos_partner]
  have hs := (turn_bijective c d).sum_comp fun e => share m e (gRow (own c d) p a) (gCol d b)
  have e1 : ∀ c : Dev nD, chunkAt (⟨15, by omega⟩ : Fin 16) c d = own c d := fun c => chunkAt_last c d
  rw [tot, tot, rsv_at, rsv_at, e1, e1, hp, Finset.sum_range, Finset.sum_range]
  refine Eq.trans ?_ hs
  rw [Fintype.sum_prod_type, Fintype.sum_bool, add_comm]
  rfl

end Cert.Ring
end
-- ==== Proof.Value.lean ====
/-
# The value

What every device ends with is the reference's result: the 32 devices' shares of the contraction add up to the whole
contraction, and `y · logistic y` is `y / (1 + exp (-y))` at every extended real.
-/
module

public import proofs.«01_k».proof.Defs
public import proofs.«01_k».proof.Proof.Launch
public import proofs.«01_k».proof.Proof.Products
public import proofs.«01_k».proof.Proof.Gen.ReferenceIdeal.Run

@[expose] public section

noncomputable section

namespace Cert.Ring

open Cert.KernelIdeal Cert.KernelIdeal.Gen

open Idealize.ShloMosaic
open Idealize.ShloMosaic.TcCoe
open Idealize.SL.Sem

/-! ## The epilogue -/

/-- The kernel multiplies by the logistic function, the reference divides. -/
theorem silu (y : EReal) : y * Ideal.logistic y = Ideal.div y (1 + Ideal.exp (-y)) := by
  have e : (1 : EReal) + Ideal.exp (-y) ≠ 0 := by
    have h : (0 : EReal) ≤ Ideal.exp (-y) := by
      generalize -y = z
      induction z with
      | bot => rw [Ideal.exp_bot]
      | top => rw [Ideal.exp_top]; exact le_top
      | coe r => rw [Ideal.exp_coe]; exact_mod_cast (Real.exp_pos r).le
    exact (lt_of_lt_of_le zero_lt_one (le_add_of_nonneg_right h)).ne'
  rw [Ideal.logistic, Ideal.div, Ideal.div, if_neg e, if_neg e, one_mul]

/-! ## The contraction -/

section
variable (m : (ℓ : Loc nD τ sig) → Buf (Elt Ideal) ℓ)

/-- The sum over the devices of their shares. -/
def whole (i j : Fin 2048) : EReal := ∑ e : Fin 32, share m e i j

theorem fin_at (c : Dev nD) (p : Fin 4) (d : Bool) (a : Fin 16) (b : Fin 1024) :
    (fin m c p d (ix2 a b) : EReal)
      = (fun y : EReal => y * Ideal.logistic y) (whole m (gRow (own c d) (half c) ⟨16 * p.val + a.val, by omega⟩) (gCol d b)) := by
  have h : ∀ (X Y : FVec Ideal S16x1024 .f32), (k0_pay105 (F := Ideal) (shapeCast S1x16x1024 X rfl) Y (ix2 a b) : EReal)
      = (fun y : EReal => y * Ideal.logistic y) ((X (ix2 a b) : EReal) + (Y (ix2 a b) : EReal)) := by
    intro X Y
    pointwise [k0_pay105]
  rw [fin, h, row4_at, row4_at, tot_at]
  rfl

/-- The kernel's result, element by element. -/
theorem G_at (i : S2048x2048.Idx) : (G m i : EReal) = (fun y : EReal => y * Ideal.logistic y) (whole m (i 0) (i 1)) := by
  have hi0 : (i 0).val < 2048 := (i 0).isLt
  have hi1 : (i 1).val < 2048 := (i 1).isLt
  have ein : inOf i = ix2 (⟨(i 0).val % 16, Nat.mod_lt _ (by decide)⟩ : Fin 16) (⟨(i 1).val % 1024, Nat.mod_lt _ (by decide)⟩ : Fin 1024) := by
    funext a; fin_cases a <;> rfl
  obtain ⟨h1, h2⟩ := own_devAt (chunkOf i) (halfOf i) (dirOf i)
  unfold G
  rw [ein, fin_at, h1, h2]
  refine congrArg₂ (fun a b => (fun y : EReal => y * Ideal.logistic y) (whole m a b)) (Fin.ext ?_) (Fin.ext ?_)
  · show 128 * ((i 0).val / 128) + 64 * ((i 0).val / 64 % 2) + (16 * ((i 0).val / 16 % 4) + (i 0).val % 16) = (i 0).val
    omega
  · show 1024 * (decide (1024 ≤ (i 1).val)).toNat + (i 1).val % 1024 = (i 1).val
    by_cases h : 1024 ≤ (i 1).val
    · rw [decide_eq_true h]; show 1024 * 1 + _ = _; omega
    · rw [decide_eq_false h]; show 1024 * 0 + _ = _; omega
end

/-! ## The arrays and their one block -/

theorem read_x (f : Vec Ideal S2048x64 .f32) : (win0_0.blk (0 : Fin 1)).view.read (Elt Ideal) f = f := by
  refine funext fun i => congrArg f (funext fun a => Fin.ext ?_)
  fin_cases a
  · show 0 + 1 * (i 0).val = (i 0).val; omega
  · show 0 + 1 * (i 1).val = (i 1).val; omega
theorem read_w (f : Vec Ideal S64x2048 .f32) : (win0_1.blk (0 : Fin 1)).view.read (Elt Ideal) f = f := by
  refine funext fun i => congrArg f (funext fun a => Fin.ext ?_)
  fin_cases a
  · show 0 + 1 * (i 0).val = (i 0).val; omega
  · show 0 + 1 * (i 1).val = (i 1).val; omega
theorem read_o (f : Vec Ideal S2048x2048 .f32) : (win0_2.blk (0 : Fin 1)).view.read (Elt Ideal) f = f := by
  refine funext fun i => congrArg f (funext fun a => Fin.ext ?_)
  fin_cases a
  · show 0 + 1 * (i 0).val = (i 0).val; omega
  · show 0 + 1 * (i 1).val = (i 1).val; omega

/-! ## The reference's contraction, device by device -/

variable (m : (ℓ : Loc nD τ sig) → Buf (Elt Ideal) ℓ) (X W : Vec Ideal S2048x2048 .f32)

theorem whole_eq
    (hx : ∀ c : Dev nD, m ((c : Thread nD τ).loc main_arg0) = Layout.block ⟨2, ![2048, 64]⟩ ⟨2, ![2048, 2048]⟩ 1 32 c X)
    (hw : ∀ c : Dev nD, m ((c : Thread nD τ).loc main_arg1) = Layout.block ⟨2, ![64, 2048]⟩ ⟨2, ![2048, 2048]⟩ 0 32 c W)
    (i j : Fin 2048) : whole m i j = ∑ k : Fin 2048, (X (ix2 i k) : EReal) * (W (ix2 k j) : EReal) := by
  rw [Fin.sum_univ_tiles 32 64 rfl]
  refine Finset.sum_congr rfl fun e _ => Finset.sum_congr rfl fun k _ => ?_
  have h1 : xstg m e (ix2 i k) = X (ix2 i (⟨e.val * 64 + k.val, by omega⟩ : Fin 2048)) := by
    unfold xstg
    rw [read_x, hx e]
    refine congrArg X (funext fun a => ?_)
    fin_cases a <;> rfl
  have h2 : wstg m e (ix2 k j) = W (ix2 (⟨e.val * 64 + k.val, by omega⟩ : Fin 2048) j) := by
    unfold wstg
    rw [read_w, hw e]
    refine congrArg W (funext fun a => ?_)
    fin_cases a <;> rfl
  rw [h1, h2]

/-- The reference's result as a function of its arguments. -/
def refOut (X W : FVec Ideal Cert.ReferenceIdeal.S2048x2048 .f32) : FVec Ideal Cert.ReferenceIdeal.S2048x2048 .f32 :=
  Host.divf (Host.dotGeneral Cert.ReferenceIdeal.dot_S2048x2048_S2048x2048_S2048x2048_1_0_0_1_n_n none X W)
    (addf (broadcastInDim Cert.ReferenceIdeal.S2048x2048 ![] Cert.ReferenceIdeal.Gen.bcast_S_S2048x2048 (constant Cert.ReferenceIdeal.S_ .f32 0x3F800000#32))
      (Host.exp (Host.negf (Host.dotGeneral Cert.ReferenceIdeal.dot_S2048x2048_S2048x2048_S2048x2048_1_0_0_1_n_n none X W))))

theorem refOut_at (X W : FVec Ideal Cert.ReferenceIdeal.S2048x2048 .f32) (i j : Fin 2048) : (refOut X W (ix2 i j) : EReal)
    = (fun y : EReal => Ideal.div y (1 + Ideal.exp (-y))) (∑ k : Fin 2048, (X (ix2 i k) : EReal) * (W (ix2 k j) : EReal)) := by
  pointwise [refOut]

/-- The kernel's result is the reference's. -/
theorem G_eq
    (hx : ∀ c : Dev nD, m ((c : Thread nD τ).loc main_arg0) = Layout.block ⟨2, ![2048, 64]⟩ ⟨2, ![2048, 2048]⟩ 1 32 c X)
    (hw : ∀ c : Dev nD, m ((c : Thread nD τ).loc main_arg1) = Layout.block ⟨2, ![64, 2048]⟩ ⟨2, ![2048, 2048]⟩ 0 32 c W) :
    G m = refOut X W := by
  funext i
  have e : (i : S2048x2048.Idx) = ix2 (n0 := 2048) (n1 := 2048) (i 0) (i 1) := eq_ix2 i
  refine (G_at m i).trans ?_
  refine Eq.trans ?_ ((congrArg (refOut X W) e).trans (refOut_at X W (i 0) (i 1))).symm
  exact (silu _).trans (congrArg (fun y : EReal => Ideal.div y (1 + Ideal.exp (-y))) (whole_eq m X W hx hw (i 0) (i 1)))

/-- Each device's result buffer at the end; -/
theorem final_o (ρ : Dev nD → PrngReg) (c : Dev nD) : finalA m ρ c (2 : Fin 3) = G m :=
  (read_o (finalA m ρ c (2 : Fin 3))).symm.trans (finalA_o m ρ c)

/-- the kernel and the reference compute the same array from the same matrices. -/
theorem algebraic : Cert.algebraic_KernelIdeal_ReferenceIdeal := fun m g m' g' _ hin =>
  ⟨_, (θ_run Cert.KernelIdeal.defs _ _).mono
      (fun _ h c => ⟨(h.1 c (2 : Fin 3)).trans ((final_o m g c).trans (G_eq m _ _ (fun c => (hin c).1) (fun c => (hin c).2))),
        (h.1 c (0 : Fin 3)).trans (finalA_x m g c), (h.1 c (1 : Fin 3)).trans (finalA_w m g c)⟩)
      (run_main m g),
    (θ_run Cert.ReferenceIdeal.defs _ _).mono (fun _ h => h 0) (Cert.ReferenceIdeal.Value.run (F := Ideal) m' g')⟩

end Cert.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Ring.frame_kernel, Cert.Ring.frame_ideal, Cert.Ring.frame_reference, trivial, Cert.Ring.algebraic⟩

end Cert.Proof

end
